-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 2048]⟩ ⟨3, ![4, 512, 2048]⟩ (Layout.meshBlock [2, 4, 4] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 2048]⟩ (Layout.meshBlock [2, 4, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x2048 : Shape := ⟨3, ![1, 512, 2048]⟩
abbrev S512x512 : Shape := ⟨2, ![512, 512]⟩
abbrev S64x2048 : Shape := ⟨2, ![64, 2048]⟩
abbrev S64x512 : Shape := ⟨2, ![64, 512]⟩
abbrev S4x3x64x128 : Shape := ⟨4, ![4, 3, 64, 128]⟩
abbrev S3x64x512 : Shape := ⟨3, ![3, 64, 512]⟩
abbrev S_ : Shape := ⟨0, ![]⟩
abbrev S4x3 : Shape := ⟨2, ![4, 3]⟩
abbrev S4 : Shape := ⟨1, ![4]⟩
abbrev S1x64x2048 : Shape := ⟨3, ![1, 64, 2048]⟩
abbrev S1x1 : Shape := ⟨2, ![1, 1]⟩
abbrev S1x1x64x128 : Shape := ⟨4, ![1, 1, 64, 128]⟩
abbrev S64x128 : Shape := ⟨2, ![64, 128]⟩
abbrev S1x64x128 : Shape := ⟨3, ![1, 64, 128]⟩
abbrev S1 : Shape := ⟨1, ![1]⟩
abbrev S3x64x128 : Shape := ⟨3, ![3, 64, 128]⟩

abbrev nBuf : Space → Nat
  | .hbm => 2
  | .vmem => 7
  | .smem => 0
  | _ => 0

abbrev bufTy : (tb : Table) → Fin (tcTables nBuf tb) → BufTy
  | .hbm, ⟨0, _⟩ => ⟨S1x512x2048, .f32⟩
  | .hbm, ⟨1, _⟩ => ⟨S512x512, .f32⟩
  | .local _ .vmem, ⟨0, _⟩ => ⟨S512x512, .f32⟩
  | .local _ .vmem, ⟨1, _⟩ => ⟨S64x2048, .f32⟩
  | .local _ .vmem, ⟨2, _⟩ => ⟨S64x512, .f32⟩
  | .local _ .vmem, ⟨3, _⟩ => ⟨S4x3x64x128, .f32⟩
  | .local _ .vmem, ⟨4, _⟩ => ⟨S3x64x512, .f32⟩
  | .local _ .vmem, ⟨5, _⟩ => ⟨S64x512, .f32⟩
  | .local _ .vmem, ⟨6, _⟩ => ⟨S3x64x512, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 3 → Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v9 : BitVec 32 := Scalar.muli v2 c256_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c64_i32 : BitVec 32 := 64#32
  let v10 : BitVec 32 := Scalar.muli v5 c64_i32
  let v11 : BitVec 32 := Scalar.addi v9 v10
  let c0_i32_3 : BitVec 32 := 0#32
  ![0, v11.toNat, 0]
def k0_dev1 (d0 : Dev nD) : Nat :=
  let c0_i32_8 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_7 : BitVec 32 := 16#32
  let v18 : BitVec 32 := Scalar.muli v2 c16_i32_7
  let v19 : BitVec 32 := Scalar.addi c0_i32_8 v18
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_9 : BitVec 32 := 4#32
  let v20 : BitVec 32 := Scalar.muli v5 c4_i32_9
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v16 : BitVec 32 := Scalar.addi v8 c1_i32_4
  let c4_i32_5 : BitVec 32 := 4#32
  let v17 : BitVec 32 := Scalar.remsi v16 c4_i32_5
  let c1_i32_10 : BitVec 32 := 1#32
  let v22 : BitVec 32 := Scalar.muli v17 c1_i32_10
  let v23 : BitVec 32 := Scalar.addi v21 v22
  v23.toNat
def k0_dev2 (d0 : Dev nD) : Nat :=
  let c0_i32_15 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_14 : BitVec 32 := 16#32
  let v26 : BitVec 32 := Scalar.muli v2 c16_i32_14
  let v27 : BitVec 32 := Scalar.addi c0_i32_15 v26
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_16 : BitVec 32 := 4#32
  let v28 : BitVec 32 := Scalar.muli v5 c4_i32_16
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let v24 : BitVec 32 := Scalar.addi v8 c2_i32_11
  let c4_i32_12 : BitVec 32 := 4#32
  let v25 : BitVec 32 := Scalar.remsi v24 c4_i32_12
  let c1_i32_17 : BitVec 32 := 1#32
  let v30 : BitVec 32 := Scalar.muli v25 c1_i32_17
  let v31 : BitVec 32 := Scalar.addi v29 v30
  v31.toNat
def k0_dev3 (d0 : Dev nD) : Nat :=
  let c0_i32_21 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_20 : BitVec 32 := 16#32
  let v34 : BitVec 32 := Scalar.muli v2 c16_i32_20
  let v35 : BitVec 32 := Scalar.addi c0_i32_21 v34
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_22 : BitVec 32 := 4#32
  let v36 : BitVec 32 := Scalar.muli v5 c4_i32_22
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v32 : BitVec 32 := Scalar.addi v8 c3_i32
  let c4_i32_18 : BitVec 32 := 4#32
  let v33 : BitVec 32 := Scalar.remsi v32 c4_i32_18
  let c1_i32_23 : BitVec 32 := 1#32
  let v38 : BitVec 32 := Scalar.muli v33 c1_i32_23
  let v39 : BitVec 32 := Scalar.addi v37 v38
  v39.toNat
def k0_dev4 (d0 : Dev nD) : Nat :=
  let c0_i32_28 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_27 : BitVec 32 := 16#32
  let v42 : BitVec 32 := Scalar.muli v2 c16_i32_27
  let v43 : BitVec 32 := Scalar.addi c0_i32_28 v42
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_24 : BitVec 32 := 1#32
  let v40 : BitVec 32 := Scalar.addi v5 c1_i32_24
  let c4_i32_25 : BitVec 32 := 4#32
  let v41 : BitVec 32 := Scalar.remsi v40 c4_i32_25
  let c4_i32_29 : BitVec 32 := 4#32
  let v44 : BitVec 32 := Scalar.muli v41 c4_i32_29
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v46 : BitVec 32 := Scalar.muli v8 c1_i32_30
  let v47 : BitVec 32 := Scalar.addi v45 v46
  v47.toNat
def k0_dev5 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v50 : BitVec 32 := Scalar.muli v2 c16_i32_34
  let v51 : BitVec 32 := Scalar.addi c0_i32_35 v50
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_31 : BitVec 32 := 2#32
  let v48 : BitVec 32 := Scalar.addi v5 c2_i32_31
  let c4_i32_32 : BitVec 32 := 4#32
  let v49 : BitVec 32 := Scalar.remsi v48 c4_i32_32
  let c4_i32_36 : BitVec 32 := 4#32
  let v52 : BitVec 32 := Scalar.muli v49 c4_i32_36
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v54 : BitVec 32 := Scalar.muli v8 c1_i32_37
  let v55 : BitVec 32 := Scalar.addi v53 v54
  v55.toNat
def k0_dev6 (d0 : Dev nD) : Nat :=
  let c0_i32_42 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_41 : BitVec 32 := 16#32
  let v58 : BitVec 32 := Scalar.muli v2 c16_i32_41
  let v59 : BitVec 32 := Scalar.addi c0_i32_42 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_38 : BitVec 32 := 3#32
  let v56 : BitVec 32 := Scalar.addi v5 c3_i32_38
  let c4_i32_39 : BitVec 32 := 4#32
  let v57 : BitVec 32 := Scalar.remsi v56 c4_i32_39
  let c4_i32_43 : BitVec 32 := 4#32
  let v60 : BitVec 32 := Scalar.muli v57 c4_i32_43
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v62 : BitVec 32 := Scalar.muli v8 c1_i32_44
  let v63 : BitVec 32 := Scalar.addi v61 v62
  v63.toNat
def k0_dev7 (d0 : Dev nD) : Nat :=
  let c0_i32_47 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_2 v2
  let c16_i32_46 : BitVec 32 := 16#32
  let v64 : BitVec 32 := Scalar.muli v12 c16_i32_46
  let v65 : BitVec 32 := Scalar.addi c0_i32_47 v64
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_48 : BitVec 32 := 4#32
  let v66 : BitVec 32 := Scalar.muli v5 c4_i32_48
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v68 : BitVec 32 := Scalar.muli v8 c1_i32_49
  let v69 : BitVec 32 := Scalar.addi v67 v68
  v69.toNat
def k0_off2 (d0 : Dev nD) (c1_i32_52 : BitVec 32) (c0_i32_54 : BitVec 32) : Fin 2 → Nat :=
  let c0_i32_67 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v72 : BitVec 32 := Scalar.addi v8 c1_i32_52
  let c4_i32_53 : BitVec 32 := 4#32
  let v73 : BitVec 32 := Scalar.remsi v72 c4_i32_53
  let c512_i32 : BitVec 32 := 512#32
  let v74 : BitVec 32 := Scalar.muli v73 c512_i32
  let v75 : BitVec 32 := Scalar.addi v74 c0_i32_54
  ![0, v75.toNat]
def k0_dev8 (d0 : Dev nD) : Nat :=
  let c0_i32_62 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_61 : BitVec 32 := 16#32
  let v76 : BitVec 32 := Scalar.muli v2 c16_i32_61
  let v77 : BitVec 32 := Scalar.addi c0_i32_62 v76
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_63 : BitVec 32 := 4#32
  let v78 : BitVec 32 := Scalar.muli v5 c4_i32_63
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v72 : BitVec 32 := Scalar.addi v8 c1_i32_52
  let c4_i32_53 : BitVec 32 := 4#32
  let v73 : BitVec 32 := Scalar.remsi v72 c4_i32_53
  let c1_i32_64 : BitVec 32 := 1#32
  let v80 : BitVec 32 := Scalar.muli v73 c1_i32_64
  let v81 : BitVec 32 := Scalar.addi v79 v80
  v81.toNat
def k0_dev9 (d0 : Dev nD) : Nat :=
  let c0_i32_79 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_78 : BitVec 32 := 16#32
  let v93 : BitVec 32 := Scalar.muli v2 c16_i32_78
  let v94 : BitVec 32 := Scalar.addi c0_i32_79 v93
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_80 : BitVec 32 := 4#32
  let v95 : BitVec 32 := Scalar.muli v5 c4_i32_80
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_68 : BitVec 32 := 2#32
  let v89 : BitVec 32 := Scalar.addi v8 c2_i32_68
  let c4_i32_69 : BitVec 32 := 4#32
  let v90 : BitVec 32 := Scalar.remsi v89 c4_i32_69
  let c1_i32_81 : BitVec 32 := 1#32
  let v97 : BitVec 32 := Scalar.muli v90 c1_i32_81
  let v98 : BitVec 32 := Scalar.addi v96 v97
  v98.toNat
def k0_dev10 (d0 : Dev nD) : Nat :=
  let c0_i32_96 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_95 : BitVec 32 := 16#32
  let v110 : BitVec 32 := Scalar.muli v2 c16_i32_95
  let v111 : BitVec 32 := Scalar.addi c0_i32_96 v110
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_97 : BitVec 32 := 4#32
  let v112 : BitVec 32 := Scalar.muli v5 c4_i32_97
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_85 : BitVec 32 := 3#32
  let v106 : BitVec 32 := Scalar.addi v8 c3_i32_85
  let c4_i32_86 : BitVec 32 := 4#32
  let v107 : BitVec 32 := Scalar.remsi v106 c4_i32_86
  let c1_i32_98 : BitVec 32 := 1#32
  let v114 : BitVec 32 := Scalar.muli v107 c1_i32_98
  let v115 : BitVec 32 := Scalar.addi v113 v114
  v115.toNat
def k0_dev11 (d0 : Dev nD) : Nat :=
  let c0_i32_112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_111 : BitVec 32 := 16#32
  let v127 : BitVec 32 := Scalar.muli v2 c16_i32_111
  let v128 : BitVec 32 := Scalar.addi c0_i32_112 v127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_113 : BitVec 32 := 4#32
  let v129 : BitVec 32 := Scalar.muli v5 c4_i32_113
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v123 : BitVec 32 := Scalar.addi v8 c1_i32_102
  let c4_i32_103 : BitVec 32 := 4#32
  let v124 : BitVec 32 := Scalar.remsi v123 c4_i32_103
  let c1_i32_114 : BitVec 32 := 1#32
  let v131 : BitVec 32 := Scalar.muli v124 c1_i32_114
  let v132 : BitVec 32 := Scalar.addi v130 v131
  v132.toNat
def k0_dev12 (d0 : Dev nD) : Nat :=
  let c0_i32_129 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_128 : BitVec 32 := 16#32
  let v144 : BitVec 32 := Scalar.muli v2 c16_i32_128
  let v145 : BitVec 32 := Scalar.addi c0_i32_129 v144
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_130 : BitVec 32 := 4#32
  let v146 : BitVec 32 := Scalar.muli v5 c4_i32_130
  let v147 : BitVec 32 := Scalar.addi v145 v146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_118 : BitVec 32 := 2#32
  let v140 : BitVec 32 := Scalar.addi v8 c2_i32_118
  let c4_i32_119 : BitVec 32 := 4#32
  let v141 : BitVec 32 := Scalar.remsi v140 c4_i32_119
  let c1_i32_131 : BitVec 32 := 1#32
  let v148 : BitVec 32 := Scalar.muli v141 c1_i32_131
  let v149 : BitVec 32 := Scalar.addi v147 v148
  v149.toNat
def k0_dev13 (d0 : Dev nD) : Nat :=
  let c0_i32_146 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_145 : BitVec 32 := 16#32
  let v161 : BitVec 32 := Scalar.muli v2 c16_i32_145
  let v162 : BitVec 32 := Scalar.addi c0_i32_146 v161
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_147 : BitVec 32 := 4#32
  let v163 : BitVec 32 := Scalar.muli v5 c4_i32_147
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_135 : BitVec 32 := 3#32
  let v157 : BitVec 32 := Scalar.addi v8 c3_i32_135
  let c4_i32_136 : BitVec 32 := 4#32
  let v158 : BitVec 32 := Scalar.remsi v157 c4_i32_136
  let c1_i32_148 : BitVec 32 := 1#32
  let v165 : BitVec 32 := Scalar.muli v158 c1_i32_148
  let v166 : BitVec 32 := Scalar.addi v164 v165
  v166.toNat
def k0_dev14 (d0 : Dev nD) : Nat :=
  let c0_i32_163 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_162 : BitVec 32 := 16#32
  let v178 : BitVec 32 := Scalar.muli v2 c16_i32_162
  let v179 : BitVec 32 := Scalar.addi c0_i32_163 v178
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v180 : BitVec 32 := Scalar.muli v5 c4_i32_164
  let v181 : BitVec 32 := Scalar.addi v179 v180
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v174 : BitVec 32 := Scalar.addi v8 c1_i32_152
  let c4_i32_153 : BitVec 32 := 4#32
  let v175 : BitVec 32 := Scalar.remsi v174 c4_i32_153
  let c1_i32_165 : BitVec 32 := 1#32
  let v182 : BitVec 32 := Scalar.muli v175 c1_i32_165
  let v183 : BitVec 32 := Scalar.addi v181 v182
  v183.toNat
def k0_dev15 (d0 : Dev nD) : Nat :=
  let c0_i32_180 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_179 : BitVec 32 := 16#32
  let v195 : BitVec 32 := Scalar.muli v2 c16_i32_179
  let v196 : BitVec 32 := Scalar.addi c0_i32_180 v195
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_181 : BitVec 32 := 4#32
  let v197 : BitVec 32 := Scalar.muli v5 c4_i32_181
  let v198 : BitVec 32 := Scalar.addi v196 v197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_169 : BitVec 32 := 2#32
  let v191 : BitVec 32 := Scalar.addi v8 c2_i32_169
  let c4_i32_170 : BitVec 32 := 4#32
  let v192 : BitVec 32 := Scalar.remsi v191 c4_i32_170
  let c1_i32_182 : BitVec 32 := 1#32
  let v199 : BitVec 32 := Scalar.muli v192 c1_i32_182
  let v200 : BitVec 32 := Scalar.addi v198 v199
  v200.toNat
def k0_dev16 (d0 : Dev nD) : Nat :=
  let c0_i32_197 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_196 : BitVec 32 := 16#32
  let v212 : BitVec 32 := Scalar.muli v2 c16_i32_196
  let v213 : BitVec 32 := Scalar.addi c0_i32_197 v212
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_198 : BitVec 32 := 4#32
  let v214 : BitVec 32 := Scalar.muli v5 c4_i32_198
  let v215 : BitVec 32 := Scalar.addi v213 v214
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_186 : BitVec 32 := 3#32
  let v208 : BitVec 32 := Scalar.addi v8 c3_i32_186
  let c4_i32_187 : BitVec 32 := 4#32
  let v209 : BitVec 32 := Scalar.remsi v208 c4_i32_187
  let c1_i32_199 : BitVec 32 := 1#32
  let v216 : BitVec 32 := Scalar.muli v209 c1_i32_199
  let v217 : BitVec 32 := Scalar.addi v215 v216
  v217.toNat
def k0_dev17 (d0 : Dev nD) : Nat :=
  let c0_i32_213 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_212 : BitVec 32 := 16#32
  let v229 : BitVec 32 := Scalar.muli v2 c16_i32_212
  let v230 : BitVec 32 := Scalar.addi c0_i32_213 v229
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_214 : BitVec 32 := 4#32
  let v231 : BitVec 32 := Scalar.muli v5 c4_i32_214
  let v232 : BitVec 32 := Scalar.addi v230 v231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v225 : BitVec 32 := Scalar.addi v8 c1_i32_203
  let c4_i32_204 : BitVec 32 := 4#32
  let v226 : BitVec 32 := Scalar.remsi v225 c4_i32_204
  let c1_i32_215 : BitVec 32 := 1#32
  let v233 : BitVec 32 := Scalar.muli v226 c1_i32_215
  let v234 : BitVec 32 := Scalar.addi v232 v233
  v234.toNat
def k0_dev18 (d0 : Dev nD) : Nat :=
  let c0_i32_230 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_229 : BitVec 32 := 16#32
  let v246 : BitVec 32 := Scalar.muli v2 c16_i32_229
  let v247 : BitVec 32 := Scalar.addi c0_i32_230 v246
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_231 : BitVec 32 := 4#32
  let v248 : BitVec 32 := Scalar.muli v5 c4_i32_231
  let v249 : BitVec 32 := Scalar.addi v247 v248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_219 : BitVec 32 := 2#32
  let v242 : BitVec 32 := Scalar.addi v8 c2_i32_219
  let c4_i32_220 : BitVec 32 := 4#32
  let v243 : BitVec 32 := Scalar.remsi v242 c4_i32_220
  let c1_i32_232 : BitVec 32 := 1#32
  let v250 : BitVec 32 := Scalar.muli v243 c1_i32_232
  let v251 : BitVec 32 := Scalar.addi v249 v250
  v251.toNat
def k0_dev19 (d0 : Dev nD) : Nat :=
  let c0_i32_247 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_246 : BitVec 32 := 16#32
  let v263 : BitVec 32 := Scalar.muli v2 c16_i32_246
  let v264 : BitVec 32 := Scalar.addi c0_i32_247 v263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_248 : BitVec 32 := 4#32
  let v265 : BitVec 32 := Scalar.muli v5 c4_i32_248
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_236 : BitVec 32 := 3#32
  let v259 : BitVec 32 := Scalar.addi v8 c3_i32_236
  let c4_i32_237 : BitVec 32 := 4#32
  let v260 : BitVec 32 := Scalar.remsi v259 c4_i32_237
  let c1_i32_249 : BitVec 32 := 1#32
  let v267 : BitVec 32 := Scalar.muli v260 c1_i32_249
  let v268 : BitVec 32 := Scalar.addi v266 v267
  v268.toNat
def k0_off3 (d0 : Dev nD) (c0_i32_302 : BitVec 32) : Fin 2 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_301 : BitVec 32 := 512#32
  let v312 : BitVec 32 := Scalar.muli v8 c512_i32_301
  let v313 : BitVec 32 := Scalar.addi v312 c0_i32_302
  let v314 : Index := Scalar.indexCast v313
  ![0, v314.toNat]
def k0_dev20 (d0 : Dev nD) : Nat :=
  let c0_i32_323 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_322 : BitVec 32 := 16#32
  let v330 : BitVec 32 := Scalar.muli v2 c16_i32_322
  let v331 : BitVec 32 := Scalar.addi c0_i32_323 v330
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_315 : BitVec 32 := 1#32
  let v328 : BitVec 32 := Scalar.addi v5 c1_i32_315
  let c4_i32_316 : BitVec 32 := 4#32
  let v329 : BitVec 32 := Scalar.remsi v328 c4_i32_316
  let c4_i32_324 : BitVec 32 := 4#32
  let v332 : BitVec 32 := Scalar.muli v329 c4_i32_324
  let v333 : BitVec 32 := Scalar.addi v331 v332
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v334 : BitVec 32 := Scalar.muli v8 c1_i32_325
  let v335 : BitVec 32 := Scalar.addi v333 v334
  v335.toNat
def k0_dev21 (d0 : Dev nD) : Nat :=
  let c0_i32_338 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_337 : BitVec 32 := 16#32
  let v345 : BitVec 32 := Scalar.muli v2 c16_i32_337
  let v346 : BitVec 32 := Scalar.addi c0_i32_338 v345
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_330 : BitVec 32 := 2#32
  let v343 : BitVec 32 := Scalar.addi v5 c2_i32_330
  let c4_i32_331 : BitVec 32 := 4#32
  let v344 : BitVec 32 := Scalar.remsi v343 c4_i32_331
  let c4_i32_339 : BitVec 32 := 4#32
  let v347 : BitVec 32 := Scalar.muli v344 c4_i32_339
  let v348 : BitVec 32 := Scalar.addi v346 v347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v349 : BitVec 32 := Scalar.muli v8 c1_i32_340
  let v350 : BitVec 32 := Scalar.addi v348 v349
  v350.toNat
def k0_dev22 (d0 : Dev nD) : Nat :=
  let c0_i32_353 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_352 : BitVec 32 := 16#32
  let v360 : BitVec 32 := Scalar.muli v2 c16_i32_352
  let v361 : BitVec 32 := Scalar.addi c0_i32_353 v360
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_345 : BitVec 32 := 3#32
  let v358 : BitVec 32 := Scalar.addi v5 c3_i32_345
  let c4_i32_346 : BitVec 32 := 4#32
  let v359 : BitVec 32 := Scalar.remsi v358 c4_i32_346
  let c4_i32_354 : BitVec 32 := 4#32
  let v362 : BitVec 32 := Scalar.muli v359 c4_i32_354
  let v363 : BitVec 32 := Scalar.addi v361 v362
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_355 : BitVec 32 := 1#32
  let v364 : BitVec 32 := Scalar.muli v8 c1_i32_355
  let v365 : BitVec 32 := Scalar.addi v363 v364
  v365.toNat
def k0_dev23 (d0 : Dev nD) : Nat :=
  let c0_i32_363 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_2 v2
  let c16_i32_362 : BitVec 32 := 16#32
  let v373 : BitVec 32 := Scalar.muli v12 c16_i32_362
  let v374 : BitVec 32 := Scalar.addi c0_i32_363 v373
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_364 : BitVec 32 := 4#32
  let v375 : BitVec 32 := Scalar.muli v5 c4_i32_364
  let v376 : BitVec 32 := Scalar.addi v374 v375
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_365 : BitVec 32 := 1#32
  let v377 : BitVec 32 := Scalar.muli v8 c1_i32_365
  let v378 : BitVec 32 := Scalar.addi v376 v377
  v378.toNat
def k0_dev24 (d0 : Dev nD) : Nat :=
  let c0_i32_442 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_441 : BitVec 32 := 16#32
  let v439 : BitVec 32 := Scalar.muli v2 c16_i32_441
  let v440 : BitVec 32 := Scalar.addi c0_i32_442 v439
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_434 : BitVec 32 := 1#32
  let v437 : BitVec 32 := Scalar.addi v5 c1_i32_434
  let c4_i32_435 : BitVec 32 := 4#32
  let v438 : BitVec 32 := Scalar.remsi v437 c4_i32_435
  let c4_i32_443 : BitVec 32 := 4#32
  let v441 : BitVec 32 := Scalar.muli v438 c4_i32_443
  let v442 : BitVec 32 := Scalar.addi v440 v441
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_444 : BitVec 32 := 1#32
  let v443 : BitVec 32 := Scalar.muli v8 c1_i32_444
  let v444 : BitVec 32 := Scalar.addi v442 v443
  v444.toNat
def k0_dev25 (d0 : Dev nD) : Nat :=
  let c0_i32_457 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_456 : BitVec 32 := 16#32
  let v454 : BitVec 32 := Scalar.muli v2 c16_i32_456
  let v455 : BitVec 32 := Scalar.addi c0_i32_457 v454
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_449 : BitVec 32 := 2#32
  let v452 : BitVec 32 := Scalar.addi v5 c2_i32_449
  let c4_i32_450 : BitVec 32 := 4#32
  let v453 : BitVec 32 := Scalar.remsi v452 c4_i32_450
  let c4_i32_458 : BitVec 32 := 4#32
  let v456 : BitVec 32 := Scalar.muli v453 c4_i32_458
  let v457 : BitVec 32 := Scalar.addi v455 v456
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_459 : BitVec 32 := 1#32
  let v458 : BitVec 32 := Scalar.muli v8 c1_i32_459
  let v459 : BitVec 32 := Scalar.addi v457 v458
  v459.toNat
def k0_dev26 (d0 : Dev nD) : Nat :=
  let c0_i32_472 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_471 : BitVec 32 := 16#32
  let v469 : BitVec 32 := Scalar.muli v2 c16_i32_471
  let v470 : BitVec 32 := Scalar.addi c0_i32_472 v469
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_464 : BitVec 32 := 3#32
  let v467 : BitVec 32 := Scalar.addi v5 c3_i32_464
  let c4_i32_465 : BitVec 32 := 4#32
  let v468 : BitVec 32 := Scalar.remsi v467 c4_i32_465
  let c4_i32_473 : BitVec 32 := 4#32
  let v471 : BitVec 32 := Scalar.muli v468 c4_i32_473
  let v472 : BitVec 32 := Scalar.addi v470 v471
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_474 : BitVec 32 := 1#32
  let v473 : BitVec 32 := Scalar.muli v8 c1_i32_474
  let v474 : BitVec 32 := Scalar.addi v472 v473
  v474.toNat
def k0_dev27 (d0 : Dev nD) : Nat :=
  let c0_i32_482 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_2 v2
  let c16_i32_481 : BitVec 32 := 16#32
  let v482 : BitVec 32 := Scalar.muli v12 c16_i32_481
  let v483 : BitVec 32 := Scalar.addi c0_i32_482 v482
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_483 : BitVec 32 := 4#32
  let v484 : BitVec 32 := Scalar.muli v5 c4_i32_483
  let v485 : BitVec 32 := Scalar.addi v483 v484
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_484 : BitVec 32 := 1#32
  let v486 : BitVec 32 := Scalar.muli v8 c1_i32_484
  let v487 : BitVec 32 := Scalar.addi v485 v486
  v487.toNat
def k0_dev28 (d0 : Dev nD) : Nat :=
  let c0_i32_561 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_560 : BitVec 32 := 16#32
  let v548 : BitVec 32 := Scalar.muli v2 c16_i32_560
  let v549 : BitVec 32 := Scalar.addi c0_i32_561 v548
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_553 : BitVec 32 := 1#32
  let v546 : BitVec 32 := Scalar.addi v5 c1_i32_553
  let c4_i32_554 : BitVec 32 := 4#32
  let v547 : BitVec 32 := Scalar.remsi v546 c4_i32_554
  let c4_i32_562 : BitVec 32 := 4#32
  let v550 : BitVec 32 := Scalar.muli v547 c4_i32_562
  let v551 : BitVec 32 := Scalar.addi v549 v550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_563 : BitVec 32 := 1#32
  let v552 : BitVec 32 := Scalar.muli v8 c1_i32_563
  let v553 : BitVec 32 := Scalar.addi v551 v552
  v553.toNat
def k0_dev29 (d0 : Dev nD) : Nat :=
  let c0_i32_576 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_575 : BitVec 32 := 16#32
  let v563 : BitVec 32 := Scalar.muli v2 c16_i32_575
  let v564 : BitVec 32 := Scalar.addi c0_i32_576 v563
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_568 : BitVec 32 := 2#32
  let v561 : BitVec 32 := Scalar.addi v5 c2_i32_568
  let c4_i32_569 : BitVec 32 := 4#32
  let v562 : BitVec 32 := Scalar.remsi v561 c4_i32_569
  let c4_i32_577 : BitVec 32 := 4#32
  let v565 : BitVec 32 := Scalar.muli v562 c4_i32_577
  let v566 : BitVec 32 := Scalar.addi v564 v565
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_578 : BitVec 32 := 1#32
  let v567 : BitVec 32 := Scalar.muli v8 c1_i32_578
  let v568 : BitVec 32 := Scalar.addi v566 v567
  v568.toNat
def k0_dev30 (d0 : Dev nD) : Nat :=
  let c0_i32_591 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_590 : BitVec 32 := 16#32
  let v578 : BitVec 32 := Scalar.muli v2 c16_i32_590
  let v579 : BitVec 32 := Scalar.addi c0_i32_591 v578
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_583 : BitVec 32 := 3#32
  let v576 : BitVec 32 := Scalar.addi v5 c3_i32_583
  let c4_i32_584 : BitVec 32 := 4#32
  let v577 : BitVec 32 := Scalar.remsi v576 c4_i32_584
  let c4_i32_592 : BitVec 32 := 4#32
  let v580 : BitVec 32 := Scalar.muli v577 c4_i32_592
  let v581 : BitVec 32 := Scalar.addi v579 v580
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_593 : BitVec 32 := 1#32
  let v582 : BitVec 32 := Scalar.muli v8 c1_i32_593
  let v583 : BitVec 32 := Scalar.addi v581 v582
  v583.toNat
def k0_dev31 (d0 : Dev nD) : Nat :=
  let c0_i32_601 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_2 v2
  let c16_i32_600 : BitVec 32 := 16#32
  let v591 : BitVec 32 := Scalar.muli v12 c16_i32_600
  let v592 : BitVec 32 := Scalar.addi c0_i32_601 v591
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_602 : BitVec 32 := 4#32
  let v593 : BitVec 32 := Scalar.muli v5 c4_i32_602
  let v594 : BitVec 32 := Scalar.addi v592 v593
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_603 : BitVec 32 := 1#32
  let v595 : BitVec 32 := Scalar.muli v8 c1_i32_603
  let v596 : BitVec 32 := Scalar.addi v594 v595
  v596.toNat
def k0_dev32 (d0 : Dev nD) : Nat :=
  let c0_i32_679 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_678 : BitVec 32 := 16#32
  let v657 : BitVec 32 := Scalar.muli v2 c16_i32_678
  let v658 : BitVec 32 := Scalar.addi c0_i32_679 v657
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_671 : BitVec 32 := 1#32
  let v655 : BitVec 32 := Scalar.addi v5 c1_i32_671
  let c4_i32_672 : BitVec 32 := 4#32
  let v656 : BitVec 32 := Scalar.remsi v655 c4_i32_672
  let c4_i32_680 : BitVec 32 := 4#32
  let v659 : BitVec 32 := Scalar.muli v656 c4_i32_680
  let v660 : BitVec 32 := Scalar.addi v658 v659
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_681 : BitVec 32 := 1#32
  let v661 : BitVec 32 := Scalar.muli v8 c1_i32_681
  let v662 : BitVec 32 := Scalar.addi v660 v661
  v662.toNat
def k0_dev33 (d0 : Dev nD) : Nat :=
  let c0_i32_694 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_693 : BitVec 32 := 16#32
  let v672 : BitVec 32 := Scalar.muli v2 c16_i32_693
  let v673 : BitVec 32 := Scalar.addi c0_i32_694 v672
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_686 : BitVec 32 := 2#32
  let v670 : BitVec 32 := Scalar.addi v5 c2_i32_686
  let c4_i32_687 : BitVec 32 := 4#32
  let v671 : BitVec 32 := Scalar.remsi v670 c4_i32_687
  let c4_i32_695 : BitVec 32 := 4#32
  let v674 : BitVec 32 := Scalar.muli v671 c4_i32_695
  let v675 : BitVec 32 := Scalar.addi v673 v674
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_696 : BitVec 32 := 1#32
  let v676 : BitVec 32 := Scalar.muli v8 c1_i32_696
  let v677 : BitVec 32 := Scalar.addi v675 v676
  v677.toNat
def k0_dev34 (d0 : Dev nD) : Nat :=
  let c0_i32_709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_708 : BitVec 32 := 16#32
  let v687 : BitVec 32 := Scalar.muli v2 c16_i32_708
  let v688 : BitVec 32 := Scalar.addi c0_i32_709 v687
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_701 : BitVec 32 := 3#32
  let v685 : BitVec 32 := Scalar.addi v5 c3_i32_701
  let c4_i32_702 : BitVec 32 := 4#32
  let v686 : BitVec 32 := Scalar.remsi v685 c4_i32_702
  let c4_i32_710 : BitVec 32 := 4#32
  let v689 : BitVec 32 := Scalar.muli v686 c4_i32_710
  let v690 : BitVec 32 := Scalar.addi v688 v689
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_711 : BitVec 32 := 1#32
  let v691 : BitVec 32 := Scalar.muli v8 c1_i32_711
  let v692 : BitVec 32 := Scalar.addi v690 v691
  v692.toNat
def k0_dev35 (d0 : Dev nD) : Nat :=
  let c0_i32_719 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_2 v2
  let c16_i32_718 : BitVec 32 := 16#32
  let v700 : BitVec 32 := Scalar.muli v12 c16_i32_718
  let v701 : BitVec 32 := Scalar.addi c0_i32_719 v700
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_720 : BitVec 32 := 4#32
  let v702 : BitVec 32 := Scalar.muli v5 c4_i32_720
  let v703 : BitVec 32 := Scalar.addi v701 v702
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_721 : BitVec 32 := 1#32
  let v704 : BitVec 32 := Scalar.muli v8 c1_i32_721
  let v705 : BitVec 32 := Scalar.addi v703 v704
  v705.toNat
def k0_dev36 (d0 : Dev nD) : Nat :=
  let c0_i32_771 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_2 v2
  let c16_i32_770 : BitVec 32 := 16#32
  let v748 : BitVec 32 := Scalar.muli v12 c16_i32_770
  let v749 : BitVec 32 := Scalar.addi c0_i32_771 v748
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_772 : BitVec 32 := 4#32
  let v750 : BitVec 32 := Scalar.muli v5 c4_i32_772
  let v751 : BitVec 32 := Scalar.addi v749 v750
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_773 : BitVec 32 := 1#32
  let v752 : BitVec 32 := Scalar.muli v8 c1_i32_773
  let v753 : BitVec 32 := Scalar.addi v751 v752
  v753.toNat
def k0_off4 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v9 : BitVec 32 := Scalar.muli v2 c256_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c64_i32 : BitVec 32 := 64#32
  let v10 : BitVec 32 := Scalar.muli v5 c64_i32
  let v11 : BitVec 32 := Scalar.addi v9 v10
  let v761 : Index := Scalar.indexCast v11
  let c0_782 : Index := 0#32
  ![v761.toNat, 0]
def k0_off5 (d0 : Dev nD) (c0_i32_784 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_789 : BitVec 32 := 256#32
  let v768 : BitVec 32 := Scalar.muli v2 c256_i32_789
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_783 : BitVec 32 := 1#32
  let v763 : BitVec 32 := Scalar.addi v5 c1_i32_783
  let v764 : BitVec 32 := Scalar.addi v763 c0_i32_784
  let c4_i32_785 : BitVec 32 := 4#32
  let v765 : BitVec 32 := Scalar.remsi v764 c4_i32_785
  let c64_i32_790 : BitVec 32 := 64#32
  let v769 : BitVec 32 := Scalar.muli v765 c64_i32_790
  let v770 : BitVec 32 := Scalar.addi v768 v769
  let v771 : Index := Scalar.indexCast v770
  let c0_791 : Index := 0#32
  ![v771.toNat, 0]
def k0_dev37 (d0 : Dev nD) : Nat :=
  let c0_i32_855 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_2 v2
  let c16_i32_854 : BitVec 32 := 16#32
  let v829 : BitVec 32 := Scalar.muli v12 c16_i32_854
  let v830 : BitVec 32 := Scalar.addi c0_i32_855 v829
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_856 : BitVec 32 := 4#32
  let v831 : BitVec 32 := Scalar.muli v5 c4_i32_856
  let v832 : BitVec 32 := Scalar.addi v830 v831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_857 : BitVec 32 := 1#32
  let v833 : BitVec 32 := Scalar.muli v8 c1_i32_857
  let v834 : BitVec 32 := Scalar.addi v832 v833
  v834.toNat
def k0_off6 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v9 : BitVec 32 := Scalar.muli v2 c256_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c64_i32 : BitVec 32 := 64#32
  let v10 : BitVec 32 := Scalar.muli v5 c64_i32
  let v11 : BitVec 32 := Scalar.addi v9 v10
  let v842 : Index := Scalar.indexCast v11
  let c128_866 : Index := 128#32
  ![v842.toNat, 128]
def k0_off7 (d0 : Dev nD) (c0_i32_868 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_873 : BitVec 32 := 256#32
  let v849 : BitVec 32 := Scalar.muli v2 c256_i32_873
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_867 : BitVec 32 := 1#32
  let v844 : BitVec 32 := Scalar.addi v5 c1_i32_867
  let v845 : BitVec 32 := Scalar.addi v844 c0_i32_868
  let c4_i32_869 : BitVec 32 := 4#32
  let v846 : BitVec 32 := Scalar.remsi v845 c4_i32_869
  let c64_i32_874 : BitVec 32 := 64#32
  let v850 : BitVec 32 := Scalar.muli v846 c64_i32_874
  let v851 : BitVec 32 := Scalar.addi v849 v850
  let v852 : Index := Scalar.indexCast v851
  let c128_875 : Index := 128#32
  ![v852.toNat, 128]
def k0_dev38 (d0 : Dev nD) : Nat :=
  let c0_i32_939 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_2 v2
  let c16_i32_938 : BitVec 32 := 16#32
  let v910 : BitVec 32 := Scalar.muli v12 c16_i32_938
  let v911 : BitVec 32 := Scalar.addi c0_i32_939 v910
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_940 : BitVec 32 := 4#32
  let v912 : BitVec 32 := Scalar.muli v5 c4_i32_940
  let v913 : BitVec 32 := Scalar.addi v911 v912
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_941 : BitVec 32 := 1#32
  let v914 : BitVec 32 := Scalar.muli v8 c1_i32_941
  let v915 : BitVec 32 := Scalar.addi v913 v914
  v915.toNat
def k0_off8 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v9 : BitVec 32 := Scalar.muli v2 c256_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c64_i32 : BitVec 32 := 64#32
  let v10 : BitVec 32 := Scalar.muli v5 c64_i32
  let v11 : BitVec 32 := Scalar.addi v9 v10
  let v923 : Index := Scalar.indexCast v11
  let c256_950 : Index := 256#32
  ![v923.toNat, 256]
def k0_off9 (d0 : Dev nD) (c0_i32_952 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_957 : BitVec 32 := 256#32
  let v930 : BitVec 32 := Scalar.muli v2 c256_i32_957
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_951 : BitVec 32 := 1#32
  let v925 : BitVec 32 := Scalar.addi v5 c1_i32_951
  let v926 : BitVec 32 := Scalar.addi v925 c0_i32_952
  let c4_i32_953 : BitVec 32 := 4#32
  let v927 : BitVec 32 := Scalar.remsi v926 c4_i32_953
  let c64_i32_958 : BitVec 32 := 64#32
  let v931 : BitVec 32 := Scalar.muli v927 c64_i32_958
  let v932 : BitVec 32 := Scalar.addi v930 v931
  let v933 : Index := Scalar.indexCast v932
  let c256_959 : Index := 256#32
  ![v933.toNat, 256]
def k0_dev39 (d0 : Dev nD) : Nat :=
  let c0_i32_1023 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_2 v2
  let c16_i32_1022 : BitVec 32 := 16#32
  let v991 : BitVec 32 := Scalar.muli v12 c16_i32_1022
  let v992 : BitVec 32 := Scalar.addi c0_i32_1023 v991
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1024 : BitVec 32 := 4#32
  let v993 : BitVec 32 := Scalar.muli v5 c4_i32_1024
  let v994 : BitVec 32 := Scalar.addi v992 v993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1025 : BitVec 32 := 1#32
  let v995 : BitVec 32 := Scalar.muli v8 c1_i32_1025
  let v996 : BitVec 32 := Scalar.addi v994 v995
  v996.toNat
def k0_off10 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v9 : BitVec 32 := Scalar.muli v2 c256_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c64_i32 : BitVec 32 := 64#32
  let v10 : BitVec 32 := Scalar.muli v5 c64_i32
  let v11 : BitVec 32 := Scalar.addi v9 v10
  let v1004 : Index := Scalar.indexCast v11
  let c384_1034 : Index := 384#32
  ![v1004.toNat, 384]
def k0_off11 (d0 : Dev nD) (c0_i32_1036 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_1041 : BitVec 32 := 256#32
  let v1011 : BitVec 32 := Scalar.muli v2 c256_i32_1041
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1035 : BitVec 32 := 1#32
  let v1006 : BitVec 32 := Scalar.addi v5 c1_i32_1035
  let v1007 : BitVec 32 := Scalar.addi v1006 c0_i32_1036
  let c4_i32_1037 : BitVec 32 := 4#32
  let v1008 : BitVec 32 := Scalar.remsi v1007 c4_i32_1037
  let c64_i32_1042 : BitVec 32 := 64#32
  let v1012 : BitVec 32 := Scalar.muli v1008 c64_i32_1042
  let v1013 : BitVec 32 := Scalar.addi v1011 v1012
  let v1014 : Index := Scalar.indexCast v1013
  let c384_1043 : Index := 384#32
  ![v1014.toNat, 384]
def k0_off12 (d0 : Dev nD) : Fin 2 → Nat :=
  let c1_i32_1062 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1036 : BitVec 32 := Scalar.subi c1_i32_1062 v2
  let c256_i32_1063 : BitVec 32 := 256#32
  let v1037 : BitVec 32 := Scalar.muli v1036 c256_i32_1063
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c64_i32_1088 : BitVec 32 := 64#32
  let v1059 : BitVec 32 := Scalar.muli v5 c64_i32_1088
  let v1060 : BitVec 32 := Scalar.addi v1037 v1059
  let v1061 : Index := Scalar.indexCast v1060
  let c0_1089 : Index := 0#32
  ![v1061.toNat, 0]
def k0_off13 (d0 : Dev nD) (c0_i32_1091 : BitVec 32) : Fin 2 → Nat :=
  let c1_i32_1062 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1036 : BitVec 32 := Scalar.subi c1_i32_1062 v2
  let c256_i32_1063 : BitVec 32 := 256#32
  let v1037 : BitVec 32 := Scalar.muli v1036 c256_i32_1063
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1090 : BitVec 32 := 1#32
  let v1063 : BitVec 32 := Scalar.addi v5 c1_i32_1090
  let v1064 : BitVec 32 := Scalar.addi v1063 c0_i32_1091
  let c4_i32_1092 : BitVec 32 := 4#32
  let v1065 : BitVec 32 := Scalar.remsi v1064 c4_i32_1092
  let c64_i32_1096 : BitVec 32 := 64#32
  let v1068 : BitVec 32 := Scalar.muli v1065 c64_i32_1096
  let v1069 : BitVec 32 := Scalar.addi v1037 v1068
  let v1070 : Index := Scalar.indexCast v1069
  let c0_1097 : Index := 0#32
  ![v1070.toNat, 0]
def k0_off14 (d0 : Dev nD) : Fin 2 → Nat :=
  let c1_i32_1062 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1036 : BitVec 32 := Scalar.subi c1_i32_1062 v2
  let c256_i32_1063 : BitVec 32 := 256#32
  let v1037 : BitVec 32 := Scalar.muli v1036 c256_i32_1063
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c64_i32_1138 : BitVec 32 := 64#32
  let v1111 : BitVec 32 := Scalar.muli v5 c64_i32_1138
  let v1112 : BitVec 32 := Scalar.addi v1037 v1111
  let v1113 : Index := Scalar.indexCast v1112
  let c128_1139 : Index := 128#32
  ![v1113.toNat, 128]
def k0_off15 (d0 : Dev nD) (c0_i32_1141 : BitVec 32) : Fin 2 → Nat :=
  let c1_i32_1062 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1036 : BitVec 32 := Scalar.subi c1_i32_1062 v2
  let c256_i32_1063 : BitVec 32 := 256#32
  let v1037 : BitVec 32 := Scalar.muli v1036 c256_i32_1063
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1140 : BitVec 32 := 1#32
  let v1115 : BitVec 32 := Scalar.addi v5 c1_i32_1140
  let v1116 : BitVec 32 := Scalar.addi v1115 c0_i32_1141
  let c4_i32_1142 : BitVec 32 := 4#32
  let v1117 : BitVec 32 := Scalar.remsi v1116 c4_i32_1142
  let c64_i32_1146 : BitVec 32 := 64#32
  let v1120 : BitVec 32 := Scalar.muli v1117 c64_i32_1146
  let v1121 : BitVec 32 := Scalar.addi v1037 v1120
  let v1122 : Index := Scalar.indexCast v1121
  let c128_1147 : Index := 128#32
  ![v1122.toNat, 128]
def k0_off16 (d0 : Dev nD) : Fin 2 → Nat :=
  let c1_i32_1062 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1036 : BitVec 32 := Scalar.subi c1_i32_1062 v2
  let c256_i32_1063 : BitVec 32 := 256#32
  let v1037 : BitVec 32 := Scalar.muli v1036 c256_i32_1063
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c64_i32_1188 : BitVec 32 := 64#32
  let v1163 : BitVec 32 := Scalar.muli v5 c64_i32_1188
  let v1164 : BitVec 32 := Scalar.addi v1037 v1163
  let v1165 : Index := Scalar.indexCast v1164
  let c256_1189 : Index := 256#32
  ![v1165.toNat, 256]
def k0_off17 (d0 : Dev nD) (c0_i32_1191 : BitVec 32) : Fin 2 → Nat :=
  let c1_i32_1062 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1036 : BitVec 32 := Scalar.subi c1_i32_1062 v2
  let c256_i32_1063 : BitVec 32 := 256#32
  let v1037 : BitVec 32 := Scalar.muli v1036 c256_i32_1063
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1190 : BitVec 32 := 1#32
  let v1167 : BitVec 32 := Scalar.addi v5 c1_i32_1190
  let v1168 : BitVec 32 := Scalar.addi v1167 c0_i32_1191
  let c4_i32_1192 : BitVec 32 := 4#32
  let v1169 : BitVec 32 := Scalar.remsi v1168 c4_i32_1192
  let c64_i32_1196 : BitVec 32 := 64#32
  let v1172 : BitVec 32 := Scalar.muli v1169 c64_i32_1196
  let v1173 : BitVec 32 := Scalar.addi v1037 v1172
  let v1174 : Index := Scalar.indexCast v1173
  let c256_1197 : Index := 256#32
  ![v1174.toNat, 256]
def k0_off18 (d0 : Dev nD) : Fin 2 → Nat :=
  let c1_i32_1062 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1036 : BitVec 32 := Scalar.subi c1_i32_1062 v2
  let c256_i32_1063 : BitVec 32 := 256#32
  let v1037 : BitVec 32 := Scalar.muli v1036 c256_i32_1063
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c64_i32_1238 : BitVec 32 := 64#32
  let v1215 : BitVec 32 := Scalar.muli v5 c64_i32_1238
  let v1216 : BitVec 32 := Scalar.addi v1037 v1215
  let v1217 : Index := Scalar.indexCast v1216
  let c384_1239 : Index := 384#32
  ![v1217.toNat, 384]
def k0_off19 (d0 : Dev nD) (c0_i32_1241 : BitVec 32) : Fin 2 → Nat :=
  let c1_i32_1062 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1036 : BitVec 32 := Scalar.subi c1_i32_1062 v2
  let c256_i32_1063 : BitVec 32 := 256#32
  let v1037 : BitVec 32 := Scalar.muli v1036 c256_i32_1063
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1240 : BitVec 32 := 1#32
  let v1219 : BitVec 32 := Scalar.addi v5 c1_i32_1240
  let v1220 : BitVec 32 := Scalar.addi v1219 c0_i32_1241
  let c4_i32_1242 : BitVec 32 := 4#32
  let v1221 : BitVec 32 := Scalar.remsi v1220 c4_i32_1242
  let c64_i32_1246 : BitVec 32 := 64#32
  let v1224 : BitVec 32 := Scalar.muli v1221 c64_i32_1246
  let v1225 : BitVec 32 := Scalar.addi v1037 v1224
  let v1226 : Index := Scalar.indexCast v1225
  let c384_1247 : Index := 384#32
  ![v1226.toNat, 384]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x512x2048 : Shape := ⟨3, ![4, 512, 2048]⟩
abbrev S_ : Shape := ⟨0, ![]⟩
abbrev S512x2048 : Shape := ⟨2, ![512, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S_, .f32⟩
  | .hbm, ⟨2, _⟩ => ⟨S512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
/- The kernel's body as a short program over its chunk number `h` and its peer or slot number: the
   printed text, statement for statement, with the repeated groups of statements written once. -/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.RS

open Idealize.ShloMosaic Idealize.ShloMosaic.TcCoe Idealize.SL.Sem
open Cert.KernelIdeal Cert.KernelIdeal.Gen

variable {F : FTy → Type} [FloatOps F]

/-! ## Buffers and windows -/

abbrev xM : Memref sig .tc .hbm S1x512x2048 .f32 := Memref.whole main_arg0
abbrev oM : Memref sig .tc .vmem S512x512 .f32 := Memref.whole cc0_stg0_0
abbrev xlM : Memref sig .tc .vmem S64x2048 .f32 := Memref.whole cc0_scratch0
abbrev owM : Memref sig .tc .vmem S64x512 .f32 := Memref.whole cc0_scratch1
abbrev p1M : Memref sig .tc .vmem S4x3x64x128 .f32 := Memref.whole cc0_scratch2
abbrev p2M : Memref sig .tc .vmem S3x64x512 .f32 := Memref.whole cc0_scratch3
abbrev xoM : Memref sig .tc .vmem S64x512 .f32 := Memref.whole cc0_scratch4
abbrev xpM : Memref sig .tc .vmem S3x64x512 .f32 := Memref.whole cc0_scratch5

/-- Chunk `h` from the z-peer `r` lies inside the z-peers' buffer. -/
theorem inb_p1 (h : Fin 4) (r : Fin 3) : ∀ a, (![h.val, r.val, 0, 0] : Fin 4 → Nat) a + S1x1x64x128.size a ≤ S4x3x64x128.size a := by
  revert h r; decide
/-- Chunk `h` lies inside the own sum's buffer. -/
theorem inb_own (h : Fin 4) : ∀ a, (![0, 128 * h.val] : Fin 2 → Nat) a + S64x128.size a ≤ S64x512.size a := by
  revert h; decide
/-- Chunk `h` of slot `r` lies inside the y-peers' buffer. -/
theorem inb_p2 (r : Fin 3) (h : Fin 4) : ∀ a, (![r.val, 0, 128 * h.val] : Fin 3 → Nat) a + S1x64x128.size a ≤ S3x64x512.size a := by
  revert h r; decide
/-- Chunk `h` of all slots lies inside the y-peers' buffer. -/
theorem inb_p2b (h : Fin 4) : ∀ a, (![0, 0, 128 * h.val] : Fin 3 → Nat) a + S3x64x128.size a ≤ S3x64x512.size a := by
  revert h; decide
/-- Entry `(h, r)` lies inside a four by three array of semaphores. -/
theorem inb_s43 (h : Fin 4) (r : Fin 3) : ∀ a, (![h.val, r.val] : Fin 2 → Nat) a + S1x1.size a ≤ S4x3.size a := by
  revert h r; decide
/-- Entry `h` lies inside an array of four semaphores. -/
theorem inb_s4 (h : Fin 4) : ∀ a, (![h.val] : Fin 1 → Nat) a + S1.size a ≤ S4.size a := by
  revert h; decide

/-- The stripe's rows of `x`, the rectangle device `c` copies in. -/
abbrev stripeW (c : Dev nD) : Memref sig .tc .hbm S64x2048 .f32 :=
  (xM.slice (Rect.unit (s := S1x512x2048) (k0_off1 c) S1x64x2048.size (k0_off1_inb c)) (fun _ => rfl)).squeeze S64x2048 squeezes_S1x64x2048_S64x2048
/-- The chunk of the stripe that goes to the z-peer `k + 1` further. -/
abbrev xlR (c : Dev nD) (h : Fin 4) (k : Fin 3) : Rect S64x2048 :=
  Rect.unit (s := S64x2048) (k0_off2 c (BitVec.ofNat 32 (1 + k.val)) (BitVec.ofNat 32 (128 * h.val))) S64x128.size (k0_off2_inb c k h)
abbrev xlW (c : Dev nD) (h : Fin 4) (k : Fin 3) : Memref sig .tc .vmem S64x128 .f32 := xlM.slice (xlR c h k) (fun _ => rfl)
/-- The chunk of the stripe the device keeps. -/
abbrev xkR (c : Dev nD) (h : Fin 4) : Rect S64x2048 :=
  Rect.unit (s := S64x2048) (k0_off3 c (BitVec.ofNat 32 (128 * h.val))) S64x128.size (k0_off3_inb c h)
abbrev p1R (h : Fin 4) (r : Fin 3) : Rect S4x3x64x128 := Rect.unit (s := S4x3x64x128) ![h.val, r.val, 0, 0] S1x1x64x128.size (inb_p1 h r)
abbrev p1W (h : Fin 4) (r : Fin 3) : Memref sig .tc .vmem S64x128 .f32 :=
  (p1M.slice (p1R h r) (fun _ => rfl)).squeeze S64x128 squeezes_S1x1x64x128_S64x128
abbrev owR (h : Fin 4) : Rect S64x512 := Rect.unit (s := S64x512) ![0, 128 * h.val] S64x128.size (inb_own h)
abbrev owW (h : Fin 4) : Memref sig .tc .vmem S64x128 .f32 := owM.slice (owR h) (fun _ => rfl)
abbrev xoW (h : Fin 4) : Memref sig .tc .vmem S64x128 .f32 := xoM.slice (owR h) (fun _ => rfl)
abbrev p2R (r : Fin 3) (h : Fin 4) : Rect S3x64x512 := Rect.unit (s := S3x64x512) ![r.val, 0, 128 * h.val] S1x64x128.size (inb_p2 r h)
abbrev p2W (r : Fin 3) (h : Fin 4) : Memref sig .tc .vmem S64x128 .f32 :=
  (p2M.slice (p2R r h) (fun _ => rfl)).squeeze S64x128 squeezes_S1x64x128_S64x128
abbrev p2bR (h : Fin 4) : Rect S3x64x512 := Rect.unit (s := S3x64x512) ![0, 0, 128 * h.val] S3x64x128.size (inb_p2b h)
abbrev p2bW (h : Fin 4) : Memref sig .tc .vmem S3x64x128 .f32 := p2M.slice (p2bR h) (fun _ => rfl)
abbrev xpbW (h : Fin 4) : Memref sig .tc .vmem S3x64x128 .f32 := xpM.slice (p2bR h) (fun _ => rfl)

/-! ## Semaphores -/

abbrev barS : Sem sig := (SemArray.scalar (sig.barrier 0 rfl) : Sems sig S_).sem
abbrev locS : DmaSem sig := (cc0_scratch6 : DmaSems sig S_).sem
/-- The semaphore at `(h, r)` of a 4 × 3 array, at `h` of an array of 4. -/
abbrev at43 (A : DmaSems sig S4x3) (h : Fin 4) (r : Fin 3) : DmaSem sig :=
  ((A.slice (Rect.unit (s := S4x3) ![h.val, r.val] S1x1.size (inb_s43 h r))).squeeze S_ squeezes_S1x1_S_).sem
abbrev at4 (A : DmaSems sig S4) (h : Fin 4) : DmaSem sig :=
  ((A.slice (Rect.unit (s := S4) ![h.val] S1.size (inb_s4 h))).squeeze S_ squeezes_S1_S_).sem
abbrev ss1 (h : Fin 4) (k : Fin 3) : DmaSem sig := at43 cc0_scratch7 h k
abbrev rs1 (h : Fin 4) (r : Fin 3) : DmaSem sig := at43 cc0_scratch8 h r
abbrev ss2 (h : Fin 4) (k : Fin 3) : DmaSem sig := at43 cc0_scratch9 h k
abbrev rs2 (h : Fin 4) (r : Fin 3) : DmaSem sig := at43 cc0_scratch10 h r
abbrev ss3a (h : Fin 4) : DmaSem sig := at4 cc0_scratch11 h
abbrev rs3a (h : Fin 4) : DmaSem sig := at4 cc0_scratch12 h
abbrev ss3b (h : Fin 4) : DmaSem sig := at4 cc0_scratch13 h
abbrev rs3b (h : Fin 4) : DmaSem sig := at4 cc0_scratch14 h

/-! ## Peers and output offsets, as printed -/

def zdev (c : Dev nD) : Fin 3 → Dev nD
  | 0 => ⟨k0_dev1 c, k0_dev1_lt c⟩
  | 1 => ⟨k0_dev2 c, k0_dev2_lt c⟩
  | 2 => ⟨k0_dev3 c, k0_dev3_lt c⟩
def ydev (c : Dev nD) : Fin 3 → Dev nD
  | 0 => ⟨k0_dev4 c, k0_dev4_lt c⟩
  | 1 => ⟨k0_dev5 c, k0_dev5_lt c⟩
  | 2 => ⟨k0_dev6 c, k0_dev6_lt c⟩
def xdev (c : Dev nD) : Dev nD := ⟨k0_dev7 c, k0_dev7_lt c⟩

/-- The first row of the output each of the four stripes of a half goes to: `own` the device's own half's stripe
    (`r = 0` the device's own, then the slots'), and the other half's. -/
def outRow (c : Dev nD) : Fin 3 → ℕ := fun r => k0_off5 c (BitVec.ofNat 32 r.val) 0
def xoutRow (c : Dev nD) : Fin 3 → ℕ := fun r => k0_off13 c (BitVec.ofNat 32 r.val) 0
/-- A chunk of 64 rows and 128 columns lies inside the output. -/
theorem inb_row {n : ℕ} (h : Fin 4) (hn : n + 64 ≤ 512) : ∀ a, (![n, 128 * h.val] : Fin 2 → Nat) a + S64x128.size a ≤ S512x512.size a := by
  intro a
  match a with
  | ⟨0, _⟩ => exact hn
  | ⟨1, _⟩ => show 128 * h.val + 128 ≤ 512; omega
/-- The stripe of a y-peer ends inside the output. -/
theorem outRow_le (c : Dev nD) (r : Fin 3) : outRow c r + 64 ≤ 512 := k0_off5_inb c r 0
/-- The stripe of a y-peer of the x-peer ends inside the output. -/
theorem xoutRow_le (c : Dev nD) (r : Fin 3) : xoutRow c r + 64 ≤ 512 := k0_off13_inb c r 0
/-- The device's own stripe ends inside the output. -/
theorem row0_le (c : Dev nD) : k0_off4 c 0 + 64 ≤ 512 := k0_off4_inb c 0
/-- The x-peer's stripe ends inside the output. -/
theorem xrow0_le (c : Dev nD) : k0_off12 c 0 + 64 ≤ 512 := k0_off12_inb c 0
/-- The 64 rows from `n` on of the output's chunk `h`. -/
abbrev outR (n : ℕ) (hn : n + 64 ≤ 512) (h : Fin 4) : Rect S512x512 := Rect.unit (s := S512x512) ![n, 128 * h.val] S64x128.size (inb_row h hn)

/-! ## The steps -/

abbrev BP (F : FTy → Type) := Prog (TpuEff nD τ sig (Elt F) Λ₀ .tc) PUnit

/-- One program after the other. -/
def seqs : List (BP F) → BP F
  | [] => pure ⟨⟩
  | p :: ps => p >>= fun _ => seqs ps

def copyIn (c : Dev nD) : BP F :=
  Prog.lift (.enqueueDma (stripeW c) (.here xlM) (.dma locS) ((View.wordExact_bits rfl).reshape _ _) (Memref.isWhole_whole cc0_scratch0).wordExact ⟨Or.inl rfl, trivial⟩)
def waitIn (c : Dev nD) : BP F :=
  Prog.lift (.waitDma2 locS (stripeW c) xlM ((View.wordExact_bits rfl).reshape _ _) (Memref.isWhole_whole cc0_scratch0).wordExact)
def sig1 (d : Dev nD) : BP F := semSignalWord d barS 1#32
def waitBar : BP F := semWaitWord barS 7#32

/-- The device that the `i`-th of the seven barrier signals goes to: the three z-peers, the three y-peers, the x-peer. -/
def peer (c : Dev nD) : Fin 7 → Dev nD
  | 0 => zdev c 0 | 1 => zdev c 1 | 2 => zdev c 2
  | 3 => ydev c 0 | 4 => ydev c 1 | 5 => ydev c 2
  | 6 => xdev c

def send1 (c : Dev nD) (h : Fin 4) (k : Fin 3) : BP F :=
  Prog.lift (.enqueueDma (xlW c h k) (.remote (Dev.tc (zdev c k)) (p1W h k.rev) (.dma (ss1 h k))) (.dma (rs1 h k.rev))
    (View.wordExact_bits rfl) ((View.wordExact_bits rfl).reshape _ _) ⟨⟨rfl, Or.inl rfl⟩, trivial⟩)
def recv1 (h : Fin 4) (r : Fin 3) : BP F :=
  Prog.lift (.waitDma2 (rs1 h r) (p1W h r) (p1W h r) ((View.wordExact_bits rfl).reshape _ _) ((View.wordExact_bits rfl).reshape _ _))
def addUp (c : Dev nD) (h : Fin 4) : BP F := do
  let v : Vec F S64x128 .f32 ← Prog.lift (.load xlM (xkR c h).toLoadRect (View.loadsAt_vmem h_S64x128))
  let a : Vec F S1x1x64x128 .f32 ← Prog.lift (.load p1M (p1R h 0).toLoadRect (View.loadsAt_vmem h_S1x1x64x128))
  let b : Vec F S1x1x64x128 .f32 ← Prog.lift (.load p1M (p1R h 1).toLoadRect (View.loadsAt_vmem h_S1x1x64x128))
  let d : Vec F S1x1x64x128 .f32 ← Prog.lift (.load p1M (p1R h 2).toLoadRect (View.loadsAt_vmem h_S1x1x64x128))
  let _ : Vec F S64x128 .f32 ← Prog.lift (.load owM (owR h).toLoadRect (View.loadsAt_vmem h_S64x128))
  Prog.lift (.store owM (owR h) (k0_pay1 v a b d) Finset.univ (View.stores_vmem_bits_univ h_S64x128 rfl) (.inl rfl))
def send2 (c : Dev nD) (h : Fin 4) (k : Fin 3) : BP F :=
  Prog.lift (.enqueueDma (owW h) (.remote (Dev.tc (ydev c k)) (p2W k.rev h) (.dma (ss2 h k))) (.dma (rs2 h k.rev))
    (View.wordExact_bits rfl) ((View.wordExact_bits rfl).reshape _ _) ⟨⟨rfl, Or.inl rfl⟩, trivial⟩)
def send3a (c : Dev nD) (h : Fin 4) : BP F :=
  Prog.lift (.enqueueDma (owW h) (.remote (Dev.tc (xdev c)) (xoW h) (.dma (ss3a h))) (.dma (rs3a h))
    (View.wordExact_bits rfl) (View.wordExact_bits rfl) ⟨⟨rfl, Or.inl rfl⟩, trivial⟩)
def recv2 (h : Fin 4) (r : Fin 3) : BP F :=
  Prog.lift (.waitDma2 (rs2 h r) (p2W r h) (p2W r h) ((View.wordExact_bits rfl).reshape _ _) ((View.wordExact_bits rfl).reshape _ _))
def send3b (c : Dev nD) (h : Fin 4) : BP F :=
  Prog.lift (.enqueueDma (p2bW h) (.remote (Dev.tc (xdev c)) (xpbW h) (.dma (ss3b h))) (.dma (rs3b h))
    (View.wordExact_bits rfl) (View.wordExact_bits rfl) ⟨⟨rfl, Or.inl rfl⟩, trivial⟩)
/-- A 64 × 128 chunk of a 64 × 512 buffer into the output. -/
def put (M : Memref sig .tc .vmem S64x512 .f32) (n : ℕ) (hn : n + 64 ≤ 512) (h : Fin 4) : BP F := do
  let v : Vec F S64x128 .f32 ← Prog.lift (.load M (owR h).toLoadRect (View.loadsAt_vmem h_S64x128))
  let _ : Vec F S64x128 .f32 ← Prog.lift (.load oM (outR n hn h).toLoadRect (View.loadsAt_vmem h_S64x128))
  Prog.lift (.store oM (outR n hn h) v Finset.univ (View.stores_vmem_bits_univ h_S64x128 rfl) (.inl rfl))
/-- A 64 × 128 chunk of slot `r` of a 3 × 64 × 512 buffer into the output. -/
def putSlot (M : Memref sig .tc .vmem S3x64x512 .f32) (n : ℕ) (hn : n + 64 ≤ 512) (h : Fin 4) (r : Fin 3) : BP F := do
  let v : Vec F S1x64x128 .f32 ← Prog.lift (.load M (p2R r h).toLoadRect (View.loadsAt_vmem h_S1x64x128))
  let _ : Vec F S64x128 .f32 ← Prog.lift (.load oM (outR n hn h).toLoadRect (View.loadsAt_vmem h_S64x128))
  Prog.lift (.store oM (outR n hn h) (k0_pay7 v) Finset.univ (View.stores_vmem_bits_univ h_S64x128 rfl) (.inl rfl))
def recv3a (h : Fin 4) : BP F := Prog.lift (.waitDma2 (rs3a h) (owW h) (xoW h) (View.wordExact_bits rfl) (View.wordExact_bits rfl))
def recv3b (h : Fin 4) : BP F := Prog.lift (.waitDma2 (rs3b h) (p2bW h) (xpbW h) (View.wordExact_bits rfl) (View.wordExact_bits rfl))
def sent1 (c : Dev nD) (h : Fin 4) (k : Fin 3) : BP F :=
  Prog.lift (.waitDma2 (ss1 h k) (p1W h k.rev) (xlW c h k) ((View.wordExact_bits rfl).reshape _ _) (View.wordExact_bits rfl))
def sent2 (h : Fin 4) (k : Fin 3) : BP F :=
  Prog.lift (.waitDma2 (ss2 h k) (p2W k.rev h) (owW h) ((View.wordExact_bits rfl).reshape _ _) (View.wordExact_bits rfl))
def sent3a (h : Fin 4) : BP F := Prog.lift (.waitDma2 (ss3a h) (xoW h) (owW h) (View.wordExact_bits rfl) (View.wordExact_bits rfl))
def sent3b (h : Fin 4) : BP F := Prog.lift (.waitDma2 (ss3b h) (xpbW h) (p2bW h) (View.wordExact_bits rfl) (View.wordExact_bits rfl))

/-! ## The program -/

abbrev hs : List (Fin 4) := [0, 1, 2, 3]
abbrev ks : List (Fin 3) := [0, 1, 2]
abbrev hks : List (Fin 4 × Fin 3) := [(0, 0), (0, 1), (0, 2), (1, 0), (1, 1), (1, 2), (2, 0), (2, 1), (2, 2), (3, 0), (3, 1), (3, 2)]

/-- First phase's end and the second phase's sends, for chunk `h`. -/
def phB (c : Dev nD) (h : Fin 4) : BP F :=
  seqs [seqs (ks.map (recv1 h)), addUp c h, seqs (ks.map (send2 c h)), send3a c h]
/-- The y-peers' sums arrive, go on to the x-peer and into the output, for chunk `h`. -/
def phC (c : Dev nD) (h : Fin 4) : BP F :=
  seqs [seqs (ks.map (recv2 h)), send3b c h, put owM (k0_off4 c 0) (row0_le c) h,
    seqs (ks.map fun r => putSlot p2M (outRow c r) (outRow_le c r) h r)]
/-- The x-peer's half arrives and goes into the output, for chunk `h`. -/
def phD (c : Dev nD) (h : Fin 4) : BP F :=
  seqs [recv3a h, recv3b h, put xoM (k0_off12 c 0) (xrow0_le c) h,
    seqs (ks.map fun r => putSlot xpM (xoutRow c r) (xoutRow_le c r) h r)]
def phE (h : Fin 4) : BP F := seqs [seqs (ks.map (sent2 h)), sent3a h]

def prog (c : Dev nD) : BP F :=
  seqs [copyIn c, seqs ((List.finRange 7).map fun i => sig1 (peer c i)), waitBar, waitIn c,
    seqs (hks.map fun i => send1 c i.1 i.2), seqs (hs.map (phB c)), seqs (hs.map (phC c)), seqs (hs.map (phD c)),
    seqs (hks.map fun i => sent1 c i.1 i.2), seqs (hs.map phE), seqs (hs.map sent3b)]

end Cert.KernelIdeal.RS

end
-- ==== Proof.Maps.lean ====
/- The mesh as arithmetic on device numbers: who a device's peers are, which chunk of the stripe goes
   to which peer, and which rows of the output each stripe ends up in. -/
module

public import proofs.«01_k».proof.Proof.Steps

@[expose] public section

noncomputable section

namespace Cert.KernelIdeal.RS

open Idealize.ShloMosaic Idealize.ShloMosaic.TcCoe Idealize.SL.Sem
open Cert.KernelIdeal Cert.KernelIdeal.Gen

/-- The device's place on the z axis. -/
def zOf (c : Dev nD) : Fin 4 := ⟨c.val % 4, Nat.mod_lt _ (by decide)⟩

/-- Signal `i` goes to `peer c i`; the device whose signal `i` arrives at `d` is `back d i`. -/
def inv7 : Fin 7 → Fin 7
  | 0 => 2 | 1 => 1 | 2 => 0 | 3 => 5 | 4 => 4 | 5 => 3 | 6 => 6
def back (d : Dev nD) (i : Fin 7) : Dev nD := peer d (inv7 i)

/-- Signal `i` arrives at the device whose sender is the signaller. -/
theorem back_peer (c : Dev nD) (i : Fin 7) : back (peer c i) i = c := by revert c i; decide +kernel
/-- The sender of signal `i` signals back at the device it came from. -/
theorem peer_back (c : Dev nD) (i : Fin 7) : peer (back c i) i = c := by revert c i; decide +kernel
/-- Going `k + 1` along z and then the rest of the circle comes back. -/
theorem zdev_zdev (c : Dev nD) (k : Fin 3) : zdev (zdev c k) k.rev = c := by revert c k; decide +kernel
/-- The same along y. -/
theorem ydev_ydev (c : Dev nD) (k : Fin 3) : ydev (ydev c k) k.rev = c := by revert c k; decide +kernel
/-- The x-peer's x-peer is the device itself. -/
theorem xdev_xdev (c : Dev nD) : xdev (xdev c) = c := by revert c; decide +kernel

/-- The first column of chunk `h` of the part of the stripe for the `s`-th device along z. -/
def colOf (c : Dev nD) (s h : Fin 4) : ℕ := 512 * ((c.val + s.val) % 4) + 128 * h.val

/-- The offset of a chunk to send, as computed, is row 0 and column `colOf`. -/
theorem off2_eq (c : Dev nD) (h : Fin 4) (k : Fin 3) :
    k0_off2 c (BitVec.ofNat 32 (1 + k.val)) (BitVec.ofNat 32 (128 * h.val)) = ![0, colOf c k.succ h] := by
  revert c h k; decide +kernel
/-- The offset of the chunk to keep, as computed, is row 0 and column `colOf`. -/
theorem off3_eq (c : Dev nD) (h : Fin 4) : k0_off3 c (BitVec.ofNat 32 (128 * h.val)) = ![0, colOf c 0 h] := by
  revert c h; decide +kernel
/-- The chunk to send begins in the columns of the peer it goes to. -/
theorem colOf_zdev (c : Dev nD) (h : Fin 4) (k : Fin 3) : colOf c k.succ h = 512 * (zOf (zdev c k)).val + 128 * h.val := by
  revert c h k; decide +kernel
/-- The chunk to keep begins in the device's own columns. -/
theorem colOf_zero (c : Dev nD) (h : Fin 4) : colOf c 0 h = 512 * (zOf c).val + 128 * h.val := by
  revert c h; decide +kernel

/-- The eight stripes of the output of device `c`: its own, its y-peers', its x-peer's, and the x-peer's y-peers'. -/
def rowDev (c : Dev nD) : Fin 8 → Dev nD
  | 0 => c | 1 => ydev c 0 | 2 => ydev c 1 | 3 => ydev c 2
  | 4 => xdev c | 5 => ydev (xdev c) 0 | 6 => ydev (xdev c) 1 | 7 => ydev (xdev c) 2
/-- Their first rows, as the program computes them. -/
def rows (c : Dev nD) : Fin 8 → ℕ
  | 0 => k0_off4 c 0 | 1 => outRow c 0 | 2 => outRow c 1 | 3 => outRow c 2
  | 4 => k0_off12 c 0 | 5 => xoutRow c 0 | 6 => xoutRow c 1 | 7 => xoutRow c 2

/-- The rows of stripe `i` are those of the device it comes from. -/
theorem rows_eq (c : Dev nD) (i : Fin 8) : rows c i = 64 * ((rowDev c i).val / 4) := by revert c i; decide +kernel
/-- The device in column `z` of `c` that has row block `b`. -/
def blkDev (c : Dev nD) (b : Fin 8) : Dev nD := ⟨4 * b.val + c.val % 4, by have := b.isLt; show _ < 32; omega⟩
/-- All eight stripes of an output come from devices with the same z. -/
theorem rowDev_z (c : Dev nD) (i : Fin 8) : (rowDev c i).val % 4 = c.val % 4 := by revert c i; decide +kernel
/-- No two of them come from the same place on x and y. -/
theorem rowDev_inj (c : Dev nD) (i j : Fin 8) : (rowDev c i).val / 4 = (rowDev c j).val / 4 → i = j := by
  revert c i j; decide +kernel
/-- Every place on x and y has one of them. -/
theorem rowDev_surj (c : Dev nD) (b : Fin 8) : ∃ i, (rowDev c i).val / 4 = b.val := by revert c b; decide +kernel

end Cert.KernelIdeal.RS

end
-- ==== Proof.Geo.lean ====
/- What each buffer comes to hold, as a function of the launch memory, and that every window the program
   moves reads the same values at its source and at its destination. -/
module

public import proofs.«01_k».proof.Proof.Maps
public import Idealize.ShloMosaic.Lib.ValueLayout
public import Idealize.ShloMosaic.Lib.Pipeline.Value
public import Idealize.ShloMosaic.Lib.Pipeline.ValueKit.Geometry

@[expose] public section

noncomputable section

namespace Cert.KernelIdeal.RS

open Idealize.ShloMosaic Idealize.ShloMosaic.TcCoe Idealize.SL.Sem
open Cert.KernelIdeal Cert.KernelIdeal.Gen
open Idealize.ShloMosaic.ValueIdx Idealize.ShloMosaic.ValueKit

variable {F : FTy → Type} [FloatOps F]
variable (m : (ℓ : Loc nD τ sig) → Buf (Elt F) ℓ)

/-! ## Contents -/

/-- The device's argument. -/
def XA (c : Dev nD) : (main_arg0 : Ref sig .tc).ty.Contents (Elt F) := m ((c : Thread nD τ).loc main_arg0)
/-- Its stripe: the rows of the argument that the device's z-line adds up. -/
def XL (c : Dev nD) : (cc0_scratch0 : Ref sig .tc).ty.Contents (Elt F) := (stripeW c).view.read (Elt F) (XA m c)
/-- Column `j` of a device's part of a stripe. -/
def col (c : Dev nD) (j : Fin 512) : Fin 2048 := ⟨512 * (zOf c).val + j.val, by have := (zOf c).isLt; omega⟩
/-- What device `d` has for device `c`: `c`'s columns of its stripe. -/
def part (c d : Dev nD) : FVec F S64x512 .f32 := fun x => XL m d (ix2 (x 0) (col c (x 1)))
/-- The sum over the z-line, in the order the program adds. -/
def OWN (c : Dev nD) : (cc0_scratch1 : Ref sig .tc).ty.Contents (Elt F) :=
  addf (addf (addf (part m c c) (part m c (zdev c 0))) (part m c (zdev c 1))) (part m c (zdev c 2))
/-- The chunks received from the z-peers. -/
def P1 (c : Dev nD) : (cc0_scratch2 : Ref sig .tc).ty.Contents (Elt F) := fun x : S4x3x64x128.Idx =>
  XL m (zdev c (x 1)) (ix2 (x 2) (col c ⟨128 * (x 0).val + (x 3).val, by have h0 : (x 0).val < 4 := (x 0).isLt; have h3 : (x 3).val < 128 := (x 3).isLt; omega⟩))
/-- The sums received from the y-peers. -/
def P2 (c : Dev nD) : (cc0_scratch3 : Ref sig .tc).ty.Contents (Elt F) := fun x : S3x64x512.Idx =>
  OWN m (ydev c (x 0)) (ix2 (x 1) (x 2))
/-- The x-peer's sum and the ones it received. -/
def XO (c : Dev nD) : (cc0_scratch4 : Ref sig .tc).ty.Contents (Elt F) := OWN m (xdev c)
def XP (c : Dev nD) : (cc0_scratch5 : Ref sig .tc).ty.Contents (Elt F) := P2 m (xdev c)
/-- The whole output: row block `b` is the sum of the device at `b` in this column. -/
def OUT (c : Dev nD) : (cc0_stg0_0 : Ref sig .tc).ty.Contents (Elt F) := fun x : S512x512.Idx =>
  OWN m (blkDev c ⟨(x 0).val / 64, by have h : (x 0).val < 512 := (x 0).isLt; omega⟩) (ix2 ⟨(x 0).val % 64, Nat.mod_lt _ (by decide)⟩ (x 1))

/-! ## Where the windows' indices lie -/

/-- A chunk of columns ends inside the stripe. -/
theorem colOf_le (c : Dev nD) (s h : Fin 4) : colOf c s h + 128 ≤ 2048 := by
  unfold colOf; have := Nat.mod_lt (c.val + s.val) (show 0 < 4 by decide); omega

/-- Column `j` of chunk `h`. -/
def hcol (h : Fin 4) (j : Fin 128) : Fin 512 := ⟨128 * h.val + j.val, by omega⟩

/-- Where an index of a chunk to send lies in the stripe. -/
theorem xlR_emb (c : Dev nD) (h : Fin 4) (k : Fin 3) (x : S64x128.Idx) :
    (xlR c h k).emb x = ix2 (x 0) (col (zdev c k) (hcol h (x 1))) := by
  funext a
  refine Fin.ext ?_
  refine (rect_emb_unit_val (s := S64x2048) _ S64x128.size (k0_off2_inb c k h) x a).trans ?_
  match a with
  | ⟨0, _⟩ => exact (congrArg (· + (x 0).val) (congrFun (off2_eq c h k) 0)).trans (Nat.zero_add _)
  | ⟨1, _⟩ => exact (congrArg (· + (x 1).val) ((congrFun (off2_eq c h k) 1).trans (colOf_zdev c h k))).trans (Nat.add_assoc _ _ _)
/-- Where an index of the chunk to keep lies in the stripe. -/
theorem xkR_emb (c : Dev nD) (h : Fin 4) (x : S64x128.Idx) :
    (xkR c h).emb x = ix2 (x 0) (col c (hcol h (x 1))) := by
  funext a
  refine Fin.ext ?_
  refine (rect_emb_unit_val (s := S64x2048) _ S64x128.size (k0_off3_inb c h) x a).trans ?_
  match a with
  | ⟨0, _⟩ => exact (congrArg (· + (x 0).val) (congrFun (off3_eq c h) 0)).trans (Nat.zero_add _)
  | ⟨1, _⟩ => exact (congrArg (· + (x 1).val) ((congrFun (off3_eq c h) 1).trans (colOf_zero c h))).trans (Nat.add_assoc _ _ _)
/-- Where an index of a chunk lies in the own sum's buffer. -/
theorem owR_emb (h : Fin 4) (x : S64x128.Idx) : (owR h).emb x = ix2 (x 0) (hcol h (x 1)) := by
  funext a
  refine Fin.ext ((rect_emb_unit_val (s := S64x512) _ S64x128.size (inb_own h) x a).trans ?_)
  match a with
  | ⟨0, _⟩ => exact Nat.zero_add _
  | ⟨1, _⟩ => rfl
/-- Where an index of a chunk lies in the output. -/
theorem outR_emb (n : ℕ) (hn : n + 64 ≤ 512) (h : Fin 4) (x : S64x128.Idx) :
    (outR n hn h).emb x = ix2 ⟨n + (x 0).val, by have h : (x 0).val < 64 := (x 0).isLt; omega⟩ (hcol h (x 1)) := by
  funext a
  refine Fin.ext ((rect_emb_unit_val (s := S512x512) _ S64x128.size (inb_row h hn) x a).trans ?_)
  match a with
  | ⟨0, _⟩ => rfl
  | ⟨1, _⟩ => rfl
/-- Where an index of a chunk lies in the z-peers' buffer. -/
theorem p1R_emb (h : Fin 4) (r : Fin 3) (x : S1x1x64x128.Idx) : (p1R h r).emb x = ix4 h r (x 2) (x 3) := by
  funext a
  refine Fin.ext ((rect_emb_unit_val (s := S4x3x64x128) _ S1x1x64x128.size (inb_p1 h r) x a).trans ?_)
  have h0 : (x 0).val < 1 := (x 0).isLt
  have h1 : (x 1).val < 1 := (x 1).isLt
  match a with
  | ⟨0, _⟩ => show h.val + (x 0).val = h.val; omega
  | ⟨1, _⟩ => show r.val + (x 1).val = r.val; omega
  | ⟨2, _⟩ => exact Nat.zero_add _
  | ⟨3, _⟩ => exact Nat.zero_add _
/-- Where an index of a chunk lies in the y-peers' buffer. -/
theorem p2R_emb (r : Fin 3) (h : Fin 4) (x : S1x64x128.Idx) : (p2R r h).emb x = ix3 r (x 1) (hcol h (x 2)) := by
  funext a
  refine Fin.ext ((rect_emb_unit_val (s := S3x64x512) _ S1x64x128.size (inb_p2 r h) x a).trans ?_)
  have h0 : (x 0).val < 1 := (x 0).isLt
  match a with
  | ⟨0, _⟩ => show r.val + (x 0).val = r.val; omega
  | ⟨1, _⟩ => exact Nat.zero_add _
  | ⟨2, _⟩ => rfl
/-- The same for the chunk in the z-peers' buffer seen with two axes. -/
theorem p1W_emb (h : Fin 4) (r : Fin 3) (x : S64x128.Idx) : (p1W h r).view.emb x = ix4 h r (x 0) (x 1) := by
  have e : Shape.reshapeEquiv (Shape.Squeezes.numel_eq squeezes_S1x1x64x128_S64x128) x = ix4 (⟨0, Nat.one_pos⟩ : Fin 1) (⟨0, Nat.one_pos⟩ : Fin 1) (x 0) (x 1) := by
    conv_lhs => rw [eq_ix2 x]
    exact reshapeEquiv_ix2_11ab _ (x 0) (x 1)
  show (p1R h r).emb (Shape.reshapeEquiv (Shape.Squeezes.numel_eq squeezes_S1x1x64x128_S64x128) x) = _
  rw [e]; exact p1R_emb h r _
/-- The same for the chunk in the y-peers' buffer seen with two axes. -/
theorem p2W_emb (r : Fin 3) (h : Fin 4) (x : S64x128.Idx) : (p2W r h).view.emb x = ix3 r (x 0) (hcol h (x 1)) := by
  have e : Shape.reshapeEquiv (Shape.Squeezes.numel_eq squeezes_S1x64x128_S64x128) x = ix3 (⟨0, Nat.one_pos⟩ : Fin 1) (x 0) (x 1) := by
    conv_lhs => rw [eq_ix2 x]
    exact reshapeEquiv_ix2_1ab _ (x 0) (x 1)
  show (p2R r h).emb (Shape.reshapeEquiv (Shape.Squeezes.numel_eq squeezes_S1x64x128_S64x128) x) = _
  rw [e]; exact p2R_emb r h _

/-! ## A window reads the same at its source and at its destination -/

/-- A copy along z reads what its destination is to hold. -/
theorem read_send1 (c : Dev nD) (h : Fin 4) (k : Fin 3) :
    (xlW c h k).view.read (Elt F) (XL m c) = (p1W h k.rev).view.read (Elt F) (P1 m (zdev c k)) := by
  funext x
  show XL m c ((xlR c h k).emb x) = P1 m (zdev c k) ((p1W h k.rev).view.emb x)
  rw [xlR_emb, p1W_emb]
  show _ = XL m (zdev (zdev c k) k.rev) _
  rw [zdev_zdev]; rfl
/-- A copy along y reads what its destination is to hold. -/
theorem read_send2 (c : Dev nD) (h : Fin 4) (k : Fin 3) :
    (owW h).view.read (Elt F) (OWN m c) = (p2W k.rev h).view.read (Elt F) (P2 m (ydev c k)) := by
  funext x
  show OWN m c ((owR h).emb x) = P2 m (ydev c k) ((p2W k.rev h).view.emb x)
  rw [owR_emb, p2W_emb]
  show _ = OWN m (ydev (ydev c k) k.rev) _
  rw [ydev_ydev]; rfl
/-- A copy of the own sum along x reads what its destination is to hold. -/
theorem read_send3a (c : Dev nD) (h : Fin 4) :
    (owW h).view.read (Elt F) (OWN m c) = (xoW h).view.read (Elt F) (XO m (xdev c)) := by
  unfold XO; rw [xdev_xdev]; rfl
/-- A relay of the y-peers' sums along x reads what its destination is to hold. -/
theorem read_send3b (c : Dev nD) (h : Fin 4) :
    (p2bW h).view.read (Elt F) (P2 m c) = (xpbW h).view.read (Elt F) (XP m (xdev c)) := by
  unfold XP; rw [xdev_xdev]; rfl

/-- The rows of stripe `i` in the output hold the sum of the device the stripe comes from. -/
theorem OUT_rows (c : Dev nD) (i : Fin 8) (hn : rows c i + 64 ≤ 512) (h : Fin 4) (x : S64x128.Idx) :
    OUT m c ((outR (rows c i) hn h).emb x) = OWN m (rowDev c i) (ix2 (x 0) (hcol h (x 1))) := by
  rw [outR_emb]
  have hx : (x 0).val < 64 := (x 0).isLt
  have hr := rows_eq c i
  have hz := rowDev_z c i
  have e1 : (rows c i + (x 0).val) / 64 = (rowDev c i).val / 4 := by omega
  have e2 : (rows c i + (x 0).val) % 64 = (x 0).val := by omega
  show OWN m (blkDev c ⟨(rows c i + (x 0).val) / 64, _⟩) (ix2 ⟨(rows c i + (x 0).val) % 64, _⟩ (hcol h (x 1))) = _
  have d : blkDev c ⟨(rows c i + (x 0).val) / 64, by omega⟩ = rowDev c i :=
    Fin.ext (show 4 * ((rows c i + (x 0).val) / 64) + c.val % 4 = (rowDev c i).val by rw [e1]; omega)
  rw [d]
  congr 1
  funext a
  match a with
  | ⟨0, _⟩ => exact Fin.ext e2
  | ⟨1, _⟩ => rfl

/-- A chunk of the device's own sum, put into its rows of the output. -/
theorem read_put (c : Dev nD) (i : Fin 8) (hn : rows c i + 64 ≤ 512) (h : Fin 4) (f : (cc0_scratch1 : Ref sig .tc).ty.Contents (Elt F))
    (hf : f = OWN m (rowDev c i)) :
    owM.view.readAt (Elt F) (owR h).toLoadRect f = (oM.access (outR (rows c i) hn h)).read (Elt F) (OUT m c) := by
  subst hf
  funext x
  show OWN m (rowDev c i) ((owR h).emb x) = OUT m c ((outR (rows c i) hn h).emb x)
  rw [OUT_rows, owR_emb]; rfl
/-- A chunk of the x-peer's sum is the output's at the x-peer's rows. -/
theorem read_putX (c : Dev nD) (i : Fin 8) (hn : rows c i + 64 ≤ 512) (h : Fin 4) (f : (cc0_scratch4 : Ref sig .tc).ty.Contents (Elt F))
    (hf : f = OWN m (rowDev c i)) :
    xoM.view.readAt (Elt F) (owR h).toLoadRect f = (oM.access (outR (rows c i) hn h)).read (Elt F) (OUT m c) :=
  read_put m c i hn h f hf

/-- Dropping the leading axis of a loaded chunk, at an index. -/
theorem pay7_apply (v : Vec F S1x64x128 .f32) (x : S64x128.Idx) : k0_pay7 v x = v (ix3 (⟨0, Nat.one_pos⟩ : Fin 1) (x 0) (x 1)) := by
  unfold k0_pay7
  refine shapeCast_apply v _ x _ ?_
  refine (Shape.rowMajor_val_three _).trans (Eq.trans ?_ (Shape.rowMajor_val_two _).symm)
  show ((0 * 64 + (x 0).val) * 128 + (x 1).val) = (x 0).val * 128 + (x 1).val
  omega

/-- A chunk of a received slot, put into its rows of the output. -/
theorem read_putSlot (c : Dev nD) (i : Fin 8) (hn : rows c i + 64 ≤ 512) (h : Fin 4) (r : Fin 3) (d : Dev nD) (hd : ydev d r = rowDev c i) :
    k0_pay7 (p2M.view.readAt (Elt F) (p2R r h).toLoadRect (P2 m d)) = (oM.access (outR (rows c i) hn h)).read (Elt F) (OUT m c) := by
  funext x
  rw [pay7_apply]
  show P2 m d ((p2R r h).emb (ix3 (⟨0, Nat.one_pos⟩ : Fin 1) (x 0) (x 1))) = OUT m c ((outR (rows c i) hn h).emb x)
  rw [OUT_rows, p2R_emb, ← hd]
  rfl
/-- A chunk of a relayed sum is the output's at the rows of the device it comes from. -/
theorem read_putSlotX (c : Dev nD) (i : Fin 8) (hn : rows c i + 64 ≤ 512) (h : Fin 4) (r : Fin 3) (hd : ydev (xdev c) r = rowDev c i) :
    k0_pay7 (xpM.view.readAt (Elt F) (p2R r h).toLoadRect (XP m c)) = (oM.access (outR (rows c i) hn h)).read (Elt F) (OUT m c) :=
  read_putSlot m c i hn h r (xdev c) hd

/-- Dropping the two leading axes of a loaded chunk, at an index. -/
theorem cast4_apply (v : Vec F S1x1x64x128 .f32) (x : S64x128.Idx) :
    shapeCast S64x128 v shapeCasts_S1x1x64x128_S64x128 x = v (ix4 (⟨0, Nat.one_pos⟩ : Fin 1) (⟨0, Nat.one_pos⟩ : Fin 1) (x 0) (x 1)) := by
  refine shapeCast_apply v _ x _ ?_
  refine (Shape.rowMajor_val_four _).trans (Eq.trans ?_ (Shape.rowMajor_val_two _).symm)
  show (((0 * 1 + 0) * 64 + (x 0).val) * 128 + (x 1).val) = (x 0).val * 128 + (x 1).val
  omega

/-- The first phase's sum: the device's own chunk and the three received ones. -/
theorem read_addUp (c : Dev nD) (h : Fin 4) :
    k0_pay1 (xlM.view.readAt (Elt F) (xkR c h).toLoadRect (XL m c)) (p1M.view.readAt (Elt F) (p1R h 0).toLoadRect (P1 m c))
      (p1M.view.readAt (Elt F) (p1R h 1).toLoadRect (P1 m c)) (p1M.view.readAt (Elt F) (p1R h 2).toLoadRect (P1 m c))
      = (owM.access (owR h)).read (Elt F) (OWN m c) := by
  have hr (r : Fin 3) (x : S64x128.Idx) : shapeCast S64x128 (p1M.view.readAt (Elt F) (p1R h r).toLoadRect (P1 m c)) shapeCasts_S1x1x64x128_S64x128 x
      = part m c (zdev c r) (ix2 (x 0) (hcol h (x 1))) := by
    rw [cast4_apply]
    show P1 m c ((p1R h r).emb (ix4 (⟨0, Nat.one_pos⟩ : Fin 1) (⟨0, Nat.one_pos⟩ : Fin 1) (x 0) (x 1))) = _
    rw [p1R_emb]; rfl
  have h0 (x : S64x128.Idx) : xlM.view.readAt (Elt F) (xkR c h).toLoadRect (XL m c) x = part m c c (ix2 (x 0) (hcol h (x 1))) := by
    show XL m c ((xkR c h).emb x) = _
    rw [xkR_emb]; rfl
  funext x
  show _ = OWN m c ((owR h).emb x)
  rw [owR_emb]
  unfold k0_pay1 OWN
  dsimp only
  rw [shapeCast_self]
  exact congrArg₂ FloatOps.addf (congrArg₂ FloatOps.addf (congrArg₂ FloatOps.addf (h0 x) (hr 0 x)) (hr 1 x)) (hr 2 x)

end Cert.KernelIdeal.RS

end
-- ==== Proof.Sets.lean ====
/- The windows of each buffer: pairwise apart and together the whole buffer. -/
module

public import proofs.«01_k».proof.Proof.Geo

@[expose] public section

noncomputable section

namespace Cert.KernelIdeal.RS

open Idealize.ShloMosaic Idealize.ShloMosaic.TcCoe Idealize.SL.Sem
open Cert.KernelIdeal Cert.KernelIdeal.Gen
open Idealize.ShloMosaic.ValueIdx Idealize.ShloMosaic.ValueKit

/-- Sets told apart by a number, where every number that occurs is some set's. -/
theorem apart {X B : Type} [DecidableEq X] (I : B → Finset X) (q : B → ℕ) (p : X → ℕ) (hm : ∀ b x, x ∈ I b ↔ p x = q b)
    (hq : ∀ b b', q b = q b' → b = b') : ∀ b b', b ≠ b' → Disjoint (I b) (I b') := fun b b' hb => by
  rw [Finset.disjoint_left]
  intro x hx hx'
  exact hb (hq b b' (((hm b x).mp hx).symm.trans ((hm b' x).mp hx')))
/-- Sets given by the value of a number cover everything if every value that occurs is one of theirs. -/
theorem cover {X B : Type} [DecidableEq X] [Fintype X] [Fintype B] (I : B → Finset X) (q : B → ℕ) (p : X → ℕ) (hm : ∀ b x, x ∈ I b ↔ p x = q b)
    (hs : ∀ x, ∃ b, q b = p x) : Finset.univ.biUnion I = Finset.univ := by
  refine Finset.eq_univ_of_forall fun x => Finset.mem_biUnion.mpr ?_
  obtain ⟨b, hb⟩ := hs x
  exact ⟨b, Finset.mem_univ _, (hm b x).mpr hb.symm⟩

/-! ## Membership, by coordinates -/

/-- Membership of a chunk to send, by the column's number of 128s. -/
theorem mem_xlR (c : Dev nD) (h : Fin 4) (k : Fin 3) (x : S64x2048.Idx) : x ∈ (xlR c h k).set ↔ (x 1).val / 128 = colOf c k.succ h / 128 := by
  rw [Rect.mem_set_unit, Fin.forall_fin_two, off2_eq]
  have h0 : (x 0).val < 64 := (x 0).isLt
  have e : colOf c k.succ h = 128 * (4 * ((c.val + k.succ.val) % 4) + h.val) := by unfold colOf; omega
  show (0 ≤ (x 0).val ∧ (x 0).val < 0 + 64) ∧ (colOf c k.succ h ≤ (x 1).val ∧ (x 1).val < colOf c k.succ h + 128) ↔ _
  rw [e]; omega
/-- Membership of the chunk to keep, by the column's number of 128s. -/
theorem mem_xkR (c : Dev nD) (h : Fin 4) (x : S64x2048.Idx) : x ∈ (xkR c h).set ↔ (x 1).val / 128 = colOf c 0 h / 128 := by
  rw [Rect.mem_set_unit, Fin.forall_fin_two, off3_eq]
  have h0 : (x 0).val < 64 := (x 0).isLt
  have e : colOf c 0 h = 128 * (4 * ((c.val + (0 : Fin 4).val) % 4) + h.val) := by unfold colOf; omega
  show (0 ≤ (x 0).val ∧ (x 0).val < 0 + 64) ∧ (colOf c 0 h ≤ (x 1).val ∧ (x 1).val < colOf c 0 h + 128) ↔ _
  rw [e]; omega
/-- Membership of a chunk of the own sum, by the column's number of 128s. -/
theorem mem_owR (h : Fin 4) (x : S64x512.Idx) : x ∈ (owR h).set ↔ (x 1).val / 128 = h.val := by
  rw [Rect.mem_set_unit, Fin.forall_fin_two]
  have h0 : (x 0).val < 64 := (x 0).isLt
  show (0 ≤ (x 0).val ∧ (x 0).val < 0 + 64) ∧ (128 * h.val ≤ (x 1).val ∧ (x 1).val < 128 * h.val + 128) ↔ _
  omega
/-- Membership of a chunk of the z-peers' buffer, by its first two coordinates. -/
theorem mem_p1R (h : Fin 4) (r : Fin 3) (x : S4x3x64x128.Idx) : x ∈ (p1R h r).set ↔ (x 0).val = h.val ∧ (x 1).val = r.val := by
  rw [Rect.mem_set_unit]
  have h2 : (x 2).val < 64 := (x 2).isLt
  have h3 : (x 3).val < 128 := (x 3).isLt
  constructor
  · intro H
    have a0 : h.val ≤ (x 0).val ∧ (x 0).val < h.val + 1 := H 0
    have a1 : r.val ≤ (x 1).val ∧ (x 1).val < r.val + 1 := H 1
    omega
  · rintro ⟨e0, e1⟩ a
    match a with
    | ⟨0, _⟩ => show h.val ≤ (x 0).val ∧ (x 0).val < h.val + 1; omega
    | ⟨1, _⟩ => show r.val ≤ (x 1).val ∧ (x 1).val < r.val + 1; omega
    | ⟨2, _⟩ => show 0 ≤ (x 2).val ∧ (x 2).val < 0 + 64; omega
    | ⟨3, _⟩ => show 0 ≤ (x 3).val ∧ (x 3).val < 0 + 128; omega
/-- Membership of a chunk of one slot of the y-peers' buffer. -/
theorem mem_p2R (r : Fin 3) (h : Fin 4) (x : S3x64x512.Idx) : x ∈ (p2R r h).set ↔ (x 0).val = r.val ∧ (x 2).val / 128 = h.val := by
  rw [Rect.mem_set_unit]
  have h1 : (x 1).val < 64 := (x 1).isLt
  constructor
  · intro H
    have a0 : r.val ≤ (x 0).val ∧ (x 0).val < r.val + 1 := H 0
    have a2 : 128 * h.val ≤ (x 2).val ∧ (x 2).val < 128 * h.val + 128 := H 2
    omega
  · rintro ⟨e0, e1⟩ a
    match a with
    | ⟨0, _⟩ => show r.val ≤ (x 0).val ∧ (x 0).val < r.val + 1; omega
    | ⟨1, _⟩ => show 0 ≤ (x 1).val ∧ (x 1).val < 0 + 64; omega
    | ⟨2, _⟩ => show 128 * h.val ≤ (x 2).val ∧ (x 2).val < 128 * h.val + 128; omega
/-- Membership of a chunk of all slots of the y-peers' buffer. -/
theorem mem_p2bR (h : Fin 4) (x : S3x64x512.Idx) : x ∈ (p2bR h).set ↔ (x 2).val / 128 = h.val := by
  rw [Rect.mem_set_unit]
  have h0 : (x 0).val < 3 := (x 0).isLt
  have h1 : (x 1).val < 64 := (x 1).isLt
  constructor
  · intro H
    have a2 : 128 * h.val ≤ (x 2).val ∧ (x 2).val < 128 * h.val + 128 := H 2
    omega
  · rintro e1 a
    match a with
    | ⟨0, _⟩ => show 0 ≤ (x 0).val ∧ (x 0).val < 0 + 3; omega
    | ⟨1, _⟩ => show 0 ≤ (x 1).val ∧ (x 1).val < 0 + 64; omega
    | ⟨2, _⟩ => show 128 * h.val ≤ (x 2).val ∧ (x 2).val < 128 * h.val + 128; omega

/-- Each of the eight stripes ends inside the output. -/
theorem rows_le (c : Dev nD) (i : Fin 8) : rows c i + 64 ≤ 512 := by
  rw [rows_eq]; have : (rowDev c i).val < 32 := (rowDev c i).isLt; omega
/-- The output's window of stripe `i`, chunk `h`. -/
abbrev oR (c : Dev nD) (i : Fin 8) (h : Fin 4) : Rect S512x512 := outR (rows c i) (rows_le c i) h
/-- Membership of a chunk of the output, by one number for its stripe and its columns. -/
theorem mem_oR (c : Dev nD) (i : Fin 8) (h : Fin 4) (x : S512x512.Idx) :
    x ∈ (oR c i h).set ↔ 4 * ((x 0).val / 64) + (x 1).val / 128 = 4 * ((rowDev c i).val / 4) + h.val := by
  rw [Rect.mem_set_unit, Fin.forall_fin_two]
  have h0 : (x 0).val < 512 := (x 0).isLt
  have h1 : (x 1).val < 512 := (x 1).isLt
  have hr := rows_eq c i
  show (rows c i ≤ (x 0).val ∧ (x 0).val < rows c i + 64) ∧ (128 * h.val ≤ (x 1).val ∧ (x 1).val < 128 * h.val + 128) ↔ _
  omega

/-! ## The families -/

/-- The stripe's sixteen chunks: the four kept, the twelve sent. -/
def xlI (c : Dev nD) : Fin 4 ⊕ (Fin 4 × Fin 3) → Finset S64x2048.Idx
  | .inl h => (xkR c h).set
  | .inr hk => (xlR c hk.1 hk.2).set
def xlQ (c : Dev nD) : Fin 4 ⊕ (Fin 4 × Fin 3) → ℕ
  | .inl h => colOf c 0 h / 128
  | .inr hk => colOf c hk.2.succ hk.1 / 128
/-- Membership in the stripe's family, by one number. -/
theorem mem_xlI (c : Dev nD) (b : Fin 4 ⊕ (Fin 4 × Fin 3)) (x : S64x2048.Idx) : x ∈ xlI c b ↔ (x 1).val / 128 = xlQ c b := by
  rcases b with h | ⟨h, k⟩
  · exact mem_xkR c h x
  · exact mem_xlR c h k x
/-- The family's numbers differ. -/
theorem xlQ_inj (c : Dev nD) : ∀ b b', xlQ c b = xlQ c b' → b = b' := by revert c; decide +kernel
/-- All sixteen numbers occur. -/
theorem xlQ_surj (c : Dev nD) (n : Fin 16) : ∃ b, xlQ c b = n.val := by revert c n; decide +kernel
/-- The chunks of the stripe are disjoint. -/
theorem xl_apart (c : Dev nD) : ∀ b b' : Fin 4 ⊕ (Fin 4 × Fin 3), b ≠ b' → Disjoint ((xlI c) b) ((xlI c) b') :=
  apart (xlI c) (xlQ c) (fun x : S64x2048.Idx => (x 1).val / 128) (mem_xlI c) (xlQ_inj c)
/-- The chunks of the stripe cover it. -/
theorem xl_cover (c : Dev nD) : Finset.univ.biUnion (xlI c) = Finset.univ :=
  cover (xlI c) (xlQ c) (fun x : S64x2048.Idx => (x 1).val / 128) (mem_xlI c) (fun x =>
  xlQ_surj c ⟨(x 1).val / 128, by have h1 : (x 1).val < 2048 := (x 1).isLt; omega⟩)

/-- The chunks of the own sum are disjoint. -/
theorem ow_apart : ∀ b b' : Fin 4, b ≠ b' → Disjoint ((fun h : Fin 4 => (owR h).set) b) ((fun h : Fin 4 => (owR h).set) b') :=
  apart (fun h => (owR h).set) (fun h => h.val) (fun x : S64x512.Idx => (x 1).val / 128) mem_owR (fun _ _ h => Fin.ext h)
/-- The chunks of the own sum cover it. -/
theorem ow_cover : Finset.univ.biUnion (fun h : Fin 4 => (owR h).set) = Finset.univ :=
  cover (fun h => (owR h).set) (fun h => h.val) (fun x : S64x512.Idx => (x 1).val / 128) mem_owR (fun x =>
  ⟨⟨(x 1).val / 128, by have h1 : (x 1).val < 512 := (x 1).isLt; omega⟩, rfl⟩)

/-- Membership in the z-peers' family, by one number. -/
theorem mem_p1I (b : Fin 4 × Fin 3) (x : S4x3x64x128.Idx) : x ∈ (p1R b.1 b.2).set ↔ 3 * (x 0).val + (x 1).val = 3 * b.1.val + b.2.val := by
  rw [mem_p1R]; have h1 : (x 1).val < 3 := (x 1).isLt; have := b.2.isLt; omega
/-- The chunks of the z-peers' buffer are disjoint. -/
theorem p1_apart : ∀ b b' : Fin 4 × Fin 3, b ≠ b' → Disjoint ((fun b : Fin 4 × Fin 3 => (p1R b.1 b.2).set) b) ((fun b : Fin 4 × Fin 3 => (p1R b.1 b.2).set) b') :=
  apart (fun b : Fin 4 × Fin 3 => (p1R b.1 b.2).set) (fun b => 3 * b.1.val + b.2.val) (fun x : S4x3x64x128.Idx => 3 * (x 0).val + (x 1).val) mem_p1I
  (fun b b' h => by have := b.2.isLt; have := b'.2.isLt; exact Prod.ext (Fin.ext (by omega)) (Fin.ext (by omega)))
/-- The chunks of the z-peers' buffer cover it. -/
theorem p1_cover : Finset.univ.biUnion (fun b : Fin 4 × Fin 3 => (p1R b.1 b.2).set) = Finset.univ :=
  cover (fun b : Fin 4 × Fin 3 => (p1R b.1 b.2).set) (fun b => 3 * b.1.val + b.2.val) (fun x : S4x3x64x128.Idx => 3 * (x 0).val + (x 1).val) mem_p1I
  (fun x => ⟨(x 0, x 1), rfl⟩)

/-- Membership in the y-peers' family, by one number. -/
theorem mem_p2I (b : Fin 4 × Fin 3) (x : S3x64x512.Idx) : x ∈ (p2R b.2 b.1).set ↔ 4 * (x 0).val + (x 2).val / 128 = 4 * b.2.val + b.1.val := by
  rw [mem_p2R]; have h1 : (x 2).val < 512 := (x 2).isLt; have := b.1.isLt; omega
/-- The chunks of the y-peers' buffer are disjoint. -/
theorem p2_apart : ∀ b b' : Fin 4 × Fin 3, b ≠ b' → Disjoint ((fun b : Fin 4 × Fin 3 => (p2R b.2 b.1).set) b) ((fun b : Fin 4 × Fin 3 => (p2R b.2 b.1).set) b') :=
  apart (fun b : Fin 4 × Fin 3 => (p2R b.2 b.1).set) (fun b => 4 * b.2.val + b.1.val) (fun x : S3x64x512.Idx => 4 * (x 0).val + (x 2).val / 128) mem_p2I
  (fun b b' h => by have := b.1.isLt; have := b'.1.isLt; exact Prod.ext (Fin.ext (by omega)) (Fin.ext (by omega)))
/-- The chunks of the y-peers' buffer cover it. -/
theorem p2_cover : Finset.univ.biUnion (fun b : Fin 4 × Fin 3 => (p2R b.2 b.1).set) = Finset.univ :=
  cover (fun b : Fin 4 × Fin 3 => (p2R b.2 b.1).set) (fun b => 4 * b.2.val + b.1.val) (fun x : S3x64x512.Idx => 4 * (x 0).val + (x 2).val / 128) mem_p2I
  (fun x => ⟨(⟨(x 2).val / 128, by have h1 : (x 2).val < 512 := (x 2).isLt; omega⟩, x 0), rfl⟩)

/-- The chunks of all slots are disjoint. -/
theorem p2b_apart : ∀ b b' : Fin 4, b ≠ b' → Disjoint ((fun h : Fin 4 => (p2bR h).set) b) ((fun h : Fin 4 => (p2bR h).set) b') :=
  apart (fun h => (p2bR h).set) (fun h => h.val) (fun x : S3x64x512.Idx => (x 2).val / 128) mem_p2bR (fun _ _ h => Fin.ext h)
/-- The chunks of all slots cover the y-peers' buffer. -/
theorem p2b_cover : Finset.univ.biUnion (fun h : Fin 4 => (p2bR h).set) = Finset.univ :=
  cover (fun h => (p2bR h).set) (fun h => h.val) (fun x : S3x64x512.Idx => (x 2).val / 128) mem_p2bR (fun x =>
  ⟨⟨(x 2).val / 128, by have h1 : (x 2).val < 512 := (x 2).isLt; omega⟩, rfl⟩)

/-- The three slots' chunks `h` are the three-slot chunk `h`. -/
theorem p2s_apart (h : Fin 4) (r r' : Fin 3) (hr : r ≠ r') : Disjoint (p2R r h).set (p2R r' h).set := by
  rw [Finset.disjoint_left]
  intro x hx hx'
  exact hr (Fin.ext (((mem_p2R r h x).mp hx).1.symm.trans ((mem_p2R r' h x).mp hx').1))
/-- The three slots' chunks `h` make up the chunk `h` of all slots. -/
theorem p2s_cover (h : Fin 4) : (Finset.univ : Finset (Fin 3)).biUnion (fun r => (p2R r h).set) = (p2bR h).set := by
  ext x
  rw [Finset.mem_biUnion, mem_p2bR]
  constructor
  · rintro ⟨r, -, hx⟩; exact ((mem_p2R r h x).mp hx).2
  · intro hx; exact ⟨x 0, Finset.mem_univ _, (mem_p2R (x 0) h x).mpr ⟨rfl, hx⟩⟩
/-- One slot's chunk `h` is part of the chunk `h` of all slots. -/
theorem p2R_sub (r : Fin 3) (h : Fin 4) : (p2R r h).set ⊆ (p2bR h).set := fun x hx =>
  (mem_p2bR h x).mpr ((mem_p2R r h x).mp hx).2

/-- The chunks of the output are disjoint. -/
theorem o_apart (c : Dev nD) : ∀ b b' : Fin 8 × Fin 4, b ≠ b' → Disjoint ((fun b : Fin 8 × Fin 4 => (oR c b.1 b.2).set) b) ((fun b : Fin 8 × Fin 4 => (oR c b.1 b.2).set) b') :=
  apart (fun b : Fin 8 × Fin 4 => (oR c b.1 b.2).set) (fun b => 4 * ((rowDev c b.1).val / 4) + b.2.val)
  (fun x : S512x512.Idx => 4 * ((x 0).val / 64) + (x 1).val / 128) (fun b => mem_oR c b.1 b.2)
  (fun b b' h => by
    have := b.2.isLt; have := b'.2.isLt
    exact Prod.ext (rowDev_inj c _ _ (by omega)) (Fin.ext (by omega)))
/-- The chunks of the output cover it. -/
theorem o_cover (c : Dev nD) : Finset.univ.biUnion (fun b : Fin 8 × Fin 4 => (oR c b.1 b.2).set) = Finset.univ :=
  cover (fun b : Fin 8 × Fin 4 => (oR c b.1 b.2).set) (fun b => 4 * ((rowDev c b.1).val / 4) + b.2.val)
  (fun x : S512x512.Idx => 4 * ((x 0).val / 64) + (x 1).val / 128) (fun b => mem_oR c b.1 b.2)
  (fun x => by
    have h0 : (x 0).val < 512 := (x 0).isLt
    have h1 : (x 1).val < 512 := (x 1).isLt
    obtain ⟨i, hi⟩ := rowDev_surj c ⟨(x 0).val / 64, by omega⟩
    refine ⟨(i, ⟨(x 1).val / 128, by omega⟩), ?_⟩
    show 4 * ((rowDev c i).val / 4) + (x 1).val / 128 = 4 * ((x 0).val / 64) + (x 1).val / 128
    rw [hi])

end Cert.KernelIdeal.RS

end
-- ==== Proof.Proto.lean ====
/- The protocol: the cells, what each one's arrival hands over, the levels, and what a step of the program
   takes and gives. -/
module

public import proofs.«01_k».proof.Proof.Sets
public import Idealize.ShloMosaic.Lib.Pipeline.Launch
public import Idealize.ShloMosaic.Lib.Pipeline.Kit
public import Idealize.ShloMosaic.Lib.Pipeline.BigSepL
public import Idealize.ShloMosaic.Lib.Transfers
public import Idealize.ShloMosaic.Lib.Ring
public import Idealize.ShloMosaic.Lib.Tactic

@[expose] public section

set_option maxRecDepth 100000

noncomputable section

namespace Cert.KernelIdeal.RS

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

abbrev UB : Type := URounds (GSem nD τ sig) (Fin 7)
abbrev UU : Type := UR sig nD τ × UB
abbrev MM (F : FTy → Type) := MT nD τ sig Unit (Elt F) ℕ UU ℕ
abbrev EP : Emb (UR sig nD τ) (MM F) := embL
abbrev ER : Emb UB (MM F) := embR
abbrev 𝒱₀ : Variants := Variants.none

/-! ## Cells -/

/-- The copies' semaphores: the copy in, and for each chunk and peer the send's and the receive's of each phase. -/
inductive J
  | loc
  | s1 (h : Fin 4) (k : Fin 3) | r1 (h : Fin 4) (r : Fin 3)
  | s2 (h : Fin 4) (k : Fin 3) | r2 (h : Fin 4) (r : Fin 3)
  | s3a (h : Fin 4) | r3a (h : Fin 4) | s3b (h : Fin 4) | r3b (h : Fin 4)
  deriving DecidableEq

/-- The same, as a sum of index types. -/
def jEquiv : J ≃ (Unit ⊕ (Fin 4 × Fin 3) ⊕ (Fin 4 × Fin 3) ⊕ (Fin 4 × Fin 3) ⊕ (Fin 4 × Fin 3) ⊕ Fin 4 ⊕ Fin 4 ⊕ Fin 4 ⊕ Fin 4) where
  toFun
    | .loc => .inl ()
    | .s1 h k => .inr (.inl (h, k))
    | .r1 h k => .inr (.inr (.inl (h, k)))
    | .s2 h k => .inr (.inr (.inr (.inl (h, k))))
    | .r2 h k => .inr (.inr (.inr (.inr (.inl (h, k)))))
    | .s3a h => .inr (.inr (.inr (.inr (.inr (.inl h)))))
    | .r3a h => .inr (.inr (.inr (.inr (.inr (.inr (.inl h))))))
    | .s3b h => .inr (.inr (.inr (.inr (.inr (.inr (.inr (.inl h)))))))
    | .r3b h => .inr (.inr (.inr (.inr (.inr (.inr (.inr (.inr h)))))))
  invFun
    | .inl _ => .loc
    | .inr (.inl p) => .s1 p.1 p.2
    | .inr (.inr (.inl p)) => .r1 p.1 p.2
    | .inr (.inr (.inr (.inl p))) => .s2 p.1 p.2
    | .inr (.inr (.inr (.inr (.inl p)))) => .r2 p.1 p.2
    | .inr (.inr (.inr (.inr (.inr (.inl h))))) => .s3a h
    | .inr (.inr (.inr (.inr (.inr (.inr (.inl h)))))) => .r3a h
    | .inr (.inr (.inr (.inr (.inr (.inr (.inr (.inl h))))))) => .s3b h
    | .inr (.inr (.inr (.inr (.inr (.inr (.inr (.inr h))))))) => .r3b h
  left_inv j := by cases j <;> rfl
  right_inv x := by rcases x with _ | x | x | x | x | x | x | x | x <;> rfl

instance : Fintype J := Fintype.ofEquiv _ jEquiv.symm

def csem : J → SemLoc sig
  | .loc => .dma locS
  | .s1 h k => .dma (ss1 h k) | .r1 h r => .dma (rs1 h r)
  | .s2 h k => .dma (ss2 h k) | .r2 h r => .dma (rs2 h r)
  | .s3a h => .dma (ss3a h) | .r3a h => .dma (rs3a h) | .s3b h => .dma (ss3b h) | .r3b h => .dma (rs3b h)

set_option maxRecDepth 20000 in
/-- Different copies' cells have different semaphores. -/
theorem csem_inj (j j' : J) : csem j = csem j' → j = j' := by revert j j'; decide +kernel
/-- None of them is the barrier's. -/
theorem csem_ne_bar (j : J) : csem j ≠ .reg barS := by cases j <;> exact fun h => by cases h

abbrev barCell (c : Dev nD) : GSem nD τ sig := ((c : Thread nD τ), .reg barS)
abbrev cell (c : Dev nD) (j : J) : GSem nD τ sig := ((c : Thread nD τ), csem j)
/-- All cells of a device: the barrier's (`none`) and the copies'. -/
def kcell (x : Dev nD × Option J) : GSem nD τ sig := match x.2 with
  | none => barCell x.1
  | some j => cell x.1 j

/-! ## Amounts -/

abbrev N1 : ℕ := (owW 0).view.dmaCredit
abbrev N3 : ℕ := (p2bW 0).view.dmaCredit
abbrev N0 : ℕ := xlM.view.dmaCredit
def amt : J → ℕ
  | .loc => N0 | .s3b _ => N3 | .r3b _ => N3
  | .s1 _ _ => N1 | .r1 _ _ => N1 | .s2 _ _ => N1 | .r2 _ _ => N1 | .s3a _ => N1 | .r3a _ => N1
/-- Every copy pays a positive amount. -/
theorem amt_pos (j : J) : 0 < amt j := by cases j <;> exact View.dmaCredit_pos _ (by decide)

/-! ## What a window holds -/

/-- The window of `M` on device `c`, at share `q`, holding what `f` has there. -/
def At {sp : Space} {s : Shape} {e : EltTy} (M : Memref sig .tc sp s e) (c : Dev nD) (q : PosShare TreeShare)
    (f : Buf (Elt F) (M.view.loc (c : Thread nD τ))) : sProp (MM F) :=
  M.view.loc (c : Thread nD τ) ↦[M.view.set]{q} f
omit [FloatOps F] in
instance {sp : Space} {s : Shape} {e : EltTy} (M : Memref sig .tc sp s e) (c : Dev nD) (q : PosShare TreeShare)
    (f : Buf (Elt F) (M.view.loc (c : Thread nD τ))) : BI.Storable (upEmb : UEmb _ (MM F)) (At M c q f) := by unfold At; infer_instance

/-- The window holding anything. -/
def Any {sp : Space} {s : Shape} {e : EltTy} (M : Memref sig .tc sp s e) (c : Dev nD) : sProp (MM F) :=
  iprop(∃ f, At M c fullShare f)
omit [FloatOps F] in
instance {sp : Space} {s : Shape} {e : EltTy} (M : Memref sig .tc sp s e) (c : Dev nD) :
    BI.Storable (upEmb : UEmb _ (MM F)) (Any (F := F) M c) := by unfold Any; infer_instance

/-- Read shares of a chunk of a sum: one for each of the four sends out of it. -/
abbrev tok4 (i : Fin 4) : PosShare TreeShare := shareTok fullShare 4 i
abbrev rest4 : PosShare TreeShare := shareDrop fullShare 4
abbrev tok1 : PosShare TreeShare := shareTok fullShare 1 0
abbrev rest1 : PosShare TreeShare := shareDrop fullShare 1

variable (m : (ℓ : Loc nD τ sig) → Buf (Elt F) ℓ)

/-- What the arrival at a copy's cell hands over. -/
def pay (c : Dev nD) : J → sProp (MM F)
  | .loc => iprop(At xlM c fullShare (XL m c) ∗ At (stripeW c) c fullShare (XA m c))
  | .s1 h k => At (xlW c h k) c fullShare (XL m c)
  | .r1 h r => At (p1W h r) c fullShare (P1 m c)
  | .s2 h k => At (owW h) c (tok4 k.castSucc) (OWN m c)
  | .r2 h r => At (p2W r h) c fullShare (P2 m c)
  | .s3a h => At (owW h) c (tok4 3) (OWN m c)
  | .r3a h => At (xoW h) c fullShare (XO m c)
  | .s3b h => At (p2bW h) c tok1 (P2 m c)
  | .r3b h => At (xpbW h) c fullShare (XP m c)
instance pay_storable (c : Dev nD) (j : J) : BI.Storable (upEmb : UEmb _ (MM F)) (pay m c j) := by
  cases j <;> (unfold pay; infer_instance)

omit m in
/-- What device `s` gives the receiver of its `i`-th barrier signal: the windows that one sends into. -/
def giveZ (s : Dev nD) (r : Fin 3) : sProp (MM F) := bigSep Finset.univ fun h : Fin 4 => Any (p1W h r) s
def giveY (s : Dev nD) (r : Fin 3) : sProp (MM F) := bigSep Finset.univ fun h : Fin 4 => Any (p2W r h) s
def giveX (s : Dev nD) : sProp (MM F) := bigSep Finset.univ fun h : Fin 4 => iprop(Any (xoW h) s ∗ Any (xpbW h) s)
def give (s : Dev nD) : Fin 7 → sProp (MM F)
  | 0 => giveZ s 0 | 1 => giveZ s 1 | 2 => giveZ s 2
  | 3 => giveY s 0 | 4 => giveY s 1 | 5 => giveY s 2
  | 6 => giveX s
omit [FloatOps F] in
instance give_storable (s : Dev nD) (i : Fin 7) : BI.Storable (upEmb : UEmb _ (MM F)) (give (F := F) s i) := by
  unfold give giveZ giveY giveX; split <;> infer_instance

/-! ## The schedule -/

open Classical in
def sched : Rounds.Schedule (GSem nD τ sig) (Fin 7) (MM F) where
  duties g r := if r = 0 ∧ g.1.2 = .tc then (if g.2 = .reg barS then Finset.univ else if ∃ j, csem j = g.2 then {0} else ∅) else ∅
  unitless _ := False
  amount g _ _ := if h : ∃ j, csem j = g.2 then amt h.choose else 1
  payload g _ i := if h : ∃ j, csem j = g.2 then pay m g.1.1 h.choose else give (back g.1.1 i) i
  amount_pos g _ _ _ := by
    by_cases h : ∃ j, csem j = g.2
    · rw [dif_pos h]; exact amt_pos _
    · rw [dif_neg h]; exact Nat.one_pos

instance sched_storable (g : GSem nD τ sig) (r : ℕ) (d : Fin 7) :
    BI.Storable (upEmb : UEmb _ (MM F)) ((sched m).payload g r d) := by
  unfold sched; dsimp only; split <;> infer_instance

/-- The cell found from a semaphore is the one it belongs to. -/
theorem choose_csem (j : J) (h : ∃ j', csem j' = csem j) : h.choose = j := csem_inj _ _ h.choose_spec
/-- No cell is found from the barrier's semaphore. -/
theorem no_bar : ¬ ∃ j, csem j = .reg barS := fun ⟨j, h⟩ => csem_ne_bar j h

/-- The barrier's one round has the seven signals as duties. -/
theorem duties_bar (c : Dev nD) : (sched m).duties (barCell c) 0 = Finset.univ := by
  dsimp only [sched]; rw [if_pos ⟨rfl, rfl⟩, if_pos rfl]
/-- A copy's cell has one duty in its round. -/
theorem duties_cell (c : Dev nD) (j : J) : (sched m).duties (cell c j) 0 = {0} := by
  dsimp only [sched]; rw [if_pos ⟨rfl, rfl⟩, if_neg (csem_ne_bar j), if_pos ⟨j, rfl⟩]
/-- There is no second round. -/
theorem duties_later (g : GSem nD τ sig) : ∀ r, 1 ≤ r → (sched m).duties g r = ∅ := fun r hr => by
  dsimp only [sched]; rw [if_neg fun h => by omega]
/-- A signal pays one. -/
theorem amount_bar (c : Dev nD) (i : Fin 7) : (sched m).amount (barCell c) 0 i = 1 := by
  dsimp only [sched]; exact dif_neg no_bar
/-- A copy pays its bytes' credit. -/
theorem amount_cell (c : Dev nD) (j : J) (i : Fin 7) : (sched m).amount (cell c j) 0 i = amt j := by
  dsimp only [sched]
  rw [dif_pos ⟨j, rfl⟩, choose_csem]
/-- Signal `i` carries what its sender gives away. -/
theorem payload_bar (c : Dev nD) (i : Fin 7) : (sched m).payload (barCell c) 0 i = give (back c i) i := by
  dsimp only [sched]; exact dif_neg no_bar
/-- A copy's duty carries what the cell hands over. -/
theorem payload_cell (c : Dev nD) (j : J) (i : Fin 7) : (sched m).payload (cell c j) 0 i = pay m c j := by
  dsimp only [sched]
  rw [dif_pos ⟨j, rfl⟩, choose_csem]
/-- The barrier expects seven. -/
theorem expect_bar (c : Dev nD) : (sched m).expect (barCell c) 0 = 7 := by
  unfold Schedule.expect Schedule.amountOf
  rw [duties_bar, Finset.sum_congr rfl fun d _ => amount_bar m c d]; rfl
/-- A copy's cell expects the copy's amount. -/
theorem expect_cell (c : Dev nD) (j : J) : (sched m).expect (cell c j) 0 = amt j := by
  unfold Schedule.expect Schedule.amountOf; rw [duties_cell, Finset.sum_singleton, amount_cell]
/-- What the barrier's round hands over: all that the seven senders give. -/
theorem rest_bar (c : Dev nD) : bigSep ((sched m).duties (barCell c) 0 \ ∅) (fun d => (sched m).payload (barCell c) 0 d)
    = bigSep Finset.univ fun i => give (back c i) i := by
  rw [Finset.sdiff_empty, duties_bar]; exact congrArg (bigSep Finset.univ) (funext fun i => payload_bar m c i)
/-- What a copy's round hands over. -/
theorem rest_cell (c : Dev nD) (j : J) : bigSep ((sched m).duties (cell c j) 0 \ ∅) (fun d => (sched m).payload (cell c j) 0 d) = pay m c j := by
  rw [Finset.sdiff_empty, duties_cell, bigSep_singleton, payload_cell]

/-! ## Levels -/

/-- How late a copy's cell is waited for while something is still owed. -/
def jlv : J → ℕ
  | .r1 _ _ => 2 | .r2 _ _ => 3 | .r3a _ => 4 | .r3b _ => 4
  | _ => 0
def L (g : GSem nD τ sig) : Finset Unit := if g.1.2 = .tc then {()} else ∅
open Classical in
def lv (g : GSem nD τ sig) (_ : Unit) : ℕ := if g.2 = .reg barS then 1 else if h : ∃ j, csem j = g.2 then jlv h.choose else 0
/-- A semaphore on another processor has no index. -/
theorem L_of_ne (g : GSem nD τ sig) (h : g.1.2 ≠ .tc) : L g = ∅ := if_neg h
/-- A semaphore of the device's own processor has the one index. -/
theorem L_tc (c : Dev nD) (sm : SemLoc sig) : L ((c : Thread nD τ), sm) = {()} := if_pos rfl
/-- The barrier is at level one. -/
theorem lv_bar (c : Dev nD) (u : Unit) : lv (barCell c) u = 1 := if_pos rfl
/-- A copy's cell is at its phase's level. -/
theorem lv_cell (c : Dev nD) (j : J) (u : Unit) : lv (cell c j) u = jlv j := by
  unfold lv; rw [if_neg (csem_ne_bar j), dif_pos ⟨j, rfl⟩, choose_csem]

/-- Everything in `O` is owed to a cell of a level above `n`. -/
def Above (n : ℕ) (O : CellTallies nD τ sig Unit) : Prop := ∀ g u, 0 < O g u → g.1.2 = .tc ∧ n < lv g u
/-- Nothing owed is above every level. -/
theorem above_zero (n : ℕ) : Above n 0 := fun g u h => absurd h (Nat.lt_irrefl 0)
/-- Two debts above a level are so together. -/
theorem above_add {n : ℕ} {O O' : CellTallies nD τ sig Unit} (h : Above n O) (h' : Above n O') : Above n (O + O') := fun g u hg => by
  rw [Pi.add_apply, Finsupp.add_apply] at hg
  rcases Nat.eq_zero_or_pos (O g u) with e | e
  · exact h' g u (by omega)
  · exact h g u e
/-- A debt at one cell is above every level below the cell's. -/
theorem above_tally {n : ℕ} (c : Dev nD) (sm : SemLoc sig) (k : ℕ) (h : n < lv ((c : Thread nD τ), sm) ()) : Above n (tallyAt ((c : Thread nD τ), sm) () k) := fun g u hg => by
  rw [tallyAt_apply] at hg
  by_cases e : g = ((c : Thread nD τ), sm) ∧ u = ()
  · obtain ⟨rfl, rfl⟩ := e; exact ⟨rfl, h⟩
  · rw [if_neg e] at hg; exact absurd hg (Nat.lt_irrefl 0)
/-- A debt above a level is above every lower one. -/
theorem above_mono {n n' : ℕ} {O : CellTallies nD τ sig Unit} (h : Above n O) (hn : n' ≤ n) : Above n' O := fun g u hg =>
  ⟨(h g u hg).1, lt_of_le_of_lt hn (h g u hg).2⟩
/-- A list of debts above a level is so together. -/
theorem above_sum {n : ℕ} {I : Type} (l : List I) (D : I → CellTallies nD τ sig Unit) (h : ∀ i, Above n (D i)) : Above n (l.map D).sum := by
  induction l with
  | nil => exact above_zero n
  | cons i l ih => rw [List.map_cons, List.sum_cons]; exact above_add (h i) ih

omit [FloatOps F] in
/-- A device may wait at a cell if all it owes is above the cell. -/
theorem mayWait (c : Dev nD) (sm : SemLoc sig) (O : CellTallies nD τ sig Unit) (h : Above (lv ((c : Thread nD τ), sm) ()) O) :
    (levAts L lv : sProp (MM F)) ⊢ MayWait (c : Thread nD τ) sm () O :=
  MayOwe.of_cut (L := L) (lev := lv) _ (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]) (fun g u hg => (h g u hg).2)

/-! ## Triples -/

/-- What every device knows throughout: the cells' invariants, that their round is open, the levels. -/
def Ctx (K : Dev nD × Option J → ℕ) : sProp (MM F) :=
  iprop((bigSep Finset.univ fun x : Dev nD × Option J => cellInv ER (sched m) (K x) (kcell x))
    ∗ (bigSep Finset.univ fun x : Dev nD × Option J => reached ER (kcell x) 0) ∗ levAts L lv)
instance ctx_persistent (K : Dev nD × Option J → ℕ) : BI.Persistent (Ctx m K) := by unfold Ctx; infer_instance

variable (K : Dev nD × Option J → ℕ)

/-- The context has the invariant of every cell. -/
theorem ctx_inv (x : Dev nD × Option J) : Ctx m K ⊢ cellInv ER (sched m) (K x) (kcell x) := by
  unfold Ctx; iintro ⟨H, -, -⟩
  exact (bigSep_elim (Φ := fun x : Dev nD × Option J => cellInv ER (sched m) (K x) (kcell x)) (Finset.mem_univ x))
/-- It knows that every cell is at its first round. -/
theorem ctx_reached (x : Dev nD × Option J) : Ctx m K ⊢ reached ER (kcell x) 0 := by
  unfold Ctx; iintro ⟨-, H, -⟩
  exact (bigSep_elim (Φ := fun x : Dev nD × Option J => reached ER (kcell x) 0) (Finset.mem_univ x))
/-- It knows the levels. -/
theorem ctx_lev : Ctx m K ⊢ (levAts L lv : sProp (MM F)) := by
  unfold Ctx; iintro ⟨-, -, H⟩; iexact H

/-- From `P`, device `c` runs `p` and ends with `Q`. -/
def HT (c : Dev nD) (P : sProp (MM F)) (p : BP F) (Q : sProp (MM F)) : Prop :=
  iprop(Ctx m K ∗ P) ⊢ wp frame (wpE (defs₀ (F := F)) 𝒱₀ (c : Thread nD τ) none) Set.univ p (fun _ => Q)

variable {m K}
variable {c : Dev nD} {P P' Q Q' R : sProp (MM F)} {p : BP F} {ps : List (BP F)}

/-- A step keeps what it does not use. -/
theorem HT.frame (h : HT m K c P p Q) (R : sProp (MM F)) : HT m K c iprop(P ∗ R) p iprop(Q ∗ R) := by
  unfold HT at *
  iintro ⟨#HC, HP, HR⟩
  iapply (wp_frame_r _ _ _)
  isplitl [HP]
  · iapply h; isplitr; · iexact HC
    iexact HP
  · iexact HR
/-- A step from less, to more. -/
theorem HT.conseq (h : HT m K c P p Q) (hP : P' ⊢ P) (hQ : Q ⊢ Q') : HT m K c P' p Q' := by
  unfold HT at *
  exact ((sep_mono_right hP).trans h).trans (wp_mono _ _ _ fun _ => hQ)
/-- No step changes nothing. -/
theorem HT.nil : HT m K c P (seqs []) P := by
  unfold HT seqs
  rw [Prog.pure_eq_ret, wp_ret]
  iintro ⟨-, HP⟩; imodintro; iexact HP
/-- A step and then the others. -/
theorem HT.cons (h : HT m K c P p Q) (hs : HT m K c Q (seqs ps) R) : HT m K c P (seqs (p :: ps)) R := by
  unfold HT at *
  rw [seqs, wp_bind]
  iintro ⟨#HC, HP⟩
  ihave H := h $$ [HP]
  · isplitr; · iexact HC
    iexact HP
  iapply (wp_wand _ _ _) $$ H
  iintro %a HQ
  iapply hs
  isplitr; · iexact HC
  iexact HQ

/-- Device `c` owes `O`. -/
def Ow (c : Dev nD) (O : CellTallies nD τ sig Unit) : sProp (MM F) := iprop(∃ W, owes (c : Thread nD τ) O W)

/-- A loop over a list: each turn takes its own resources and pays its own debts. -/
theorem HT.loopL {I : Type} (l : List I) (pre post : I → sProp (MM F)) (step : I → BP F) (D : I → CellTallies nD τ sig Unit) (n : ℕ)
    (hD : ∀ i, Above n (D i))
    (h : ∀ i O, Above n O → HT m K c iprop(pre i ∗ Ow c (D i + O)) (step i) iprop(post i ∗ Ow c O))
    (O : CellTallies nD τ sig Unit) (hO : Above n O) :
    HT m K c iprop(bigSepL l pre ∗ Ow c ((l.map D).sum + O)) (seqs (l.map step)) iprop(bigSepL l post ∗ Ow c O) := by
  induction l with
  | nil => rw [List.map_nil, List.map_nil, List.sum_nil, zero_add]; exact HT.nil
  | cons i l ih =>
    rw [List.map_cons, List.map_cons, List.sum_cons, bigSepL_cons', bigSepL_cons', add_assoc]
    have h1 := (h i ((l.map D).sum + O) (above_add (above_sum l D hD) hO)).frame (bigSepL l pre)
    have h2 := ih.frame (post i)
    refine HT.cons (h1.conseq (Q' := iprop((bigSepL l pre ∗ Ow c ((l.map D).sum + O)) ∗ post i)) ?_ ?_) (h2.conseq (BI.Entails.refl _) ?_)
    · iintro ⟨⟨H1, H2⟩, H3⟩
      isplitl [H1 H3]; · isplitl [H1]; · iexact H1
                         iexact H3
      iexact H2
    · iintro ⟨⟨H1, H2⟩, H3⟩
      isplitl [H3 H2]; · isplitl [H3]; · iexact H3
                         iexact H2
      iexact H1
    · iintro ⟨⟨H1, H2⟩, H3⟩
      isplitl [H1 H3]; · isplitl [H3]; · iexact H3
                         iexact H1
      iexact H2

/-- The same over all of a finite type. -/
theorem HT.loop {I : Type} [Fintype I] [DecidableEq I] (l : List I) (hl : Finset.univ = l.toFinset) (hn : l.Nodup)
    (pre post : I → sProp (MM F)) (step : I → BP F) (D : I → CellTallies nD τ sig Unit) (n : ℕ)
    (hD : ∀ i, Above n (D i))
    (h : ∀ i O, Above n O → HT m K c iprop(pre i ∗ Ow c (D i + O)) (step i) iprop(post i ∗ Ow c O))
    (O : CellTallies nD τ sig Unit) (hO : Above n O) :
    HT m K c iprop(bigSep Finset.univ pre ∗ Ow c ((l.map D).sum + O)) (seqs (l.map step)) iprop(bigSep Finset.univ post ∗ Ow c O) := by
  rw [bigSep_univ_eq_bigSepL l hl hn, bigSep_univ_eq_bigSepL l hl hn]
  exact HT.loopL l pre post step D n hD h O hO

/-! ## One step -/

/-- The right to wait for cell `j`: its units are on their way, and nothing was taken from it yet. -/
def Due (c : Dev nD) (j : J) : sProp (MM F) := iprop(cred (tallyAt (cell c j) () (amt j)) ∗ atPos ER (cell c j) 0 ∅ 0)

/-- Waiting for a copy's cell: what it hands over, and the cell closed. -/
theorem ht_wait (j : J) (q : DmaSem sig) (hq : csem j = .dma q) {sp sp' : Space} {s s' : Shape} {e e' : EltTy}
    (src : Memref sig .tc sp' s' e') (dst : Memref sig .tc sp s e) (hsrc : src.view.WordExact) (hdst : dst.view.WordExact)
    (ha : dst.view.dmaCredit = amt j) (O : CellTallies nD τ sig Unit) (hO : Above (jlv j) O) :
    HT m K c iprop(Due c j ∗ Ow c O) (Prog.lift (.waitDma2 q src dst hsrc hdst)) iprop((pay m c j ∗ semVal (cell c j) 0) ∗ Ow c O) := by
  unfold HT Due Ow
  rw [Prog.lift]
  iintro ⟨#HC, ⟨Hc, Hat⟩, ⟨%W, HO⟩⟩
  ihave #HI := (ctx_inv m K (c, some j)) $$ HC
  have e1 : kcell (c, some j) = ((c : Thread nD τ), SemLoc.dma q) := by rw [← hq]; rfl
  have e2 : cell c j = ((c : Thread nD τ), SemLoc.dma q) := by rw [← hq]
  have hx : (sched m).expect ((c : Thread nD τ), SemLoc.dma q) 0 = dst.view.dmaCredit := by rw [← e2, expect_cell, ha]
  have hr := rest_cell m c j
  have hw := (ctx_lev m K).trans (mayWait (F := F) c (.dma q) O (by rw [← e2, lv_cell]; exact hO))
  rw [e1, e2]
  rw [e2] at hr
  rw [← ha]
  iapply (Rounds.wp_wait_rest_token 𝒱₀ ER (sched m) (c : Thread nD τ) none (κ := K (c, some j))
      (wpE_waitDma2_eq 𝒱₀ (c : Thread nD τ) none Set.univ) (Set.mem_univ _) () (O := O) (W := W) (R := 0) (m := 0) (T := ∅)
      (by rw [Nat.zero_add, hx])) $$ [Hc HO Hat]
  · isplitr; · iexact HI
    isplitl [Hc]; · iexact Hc
    isplitl [HO]; · iexact HO
    isplitr; · iapply hw; iexact HC
    iexact Hat
  iintro ⟨HO, Hat, -, Hpay⟩
  ihave Hp := (Entails.of_eq hr) $$ Hpay
  imod (Rounds.cell_close ER (sched m) (Set.mem_univ (K (c, some j))) (fun h => h) (R := 0 + 1) (duties_later m _)) $$ [Hat] with Hz
  · isplitr; · iexact HI
    iexact Hat
  rw [wp_ret]; imodintro
  isplitl [Hp Hz]
  · isplitl [Hp]; · iexact Hp
    iexact Hz
  iexists _; iexact HO

/-- What is written through a window is what it is to hold there, when that reads the same. -/
theorem at_write {sp : Space} {s : Shape} {e : EltTy} (M : Memref sig .tc sp s e) (c : Dev nD)
    (fd g : Buf (Elt F) (M.view.loc (c : Thread nD τ))) (w : s.Idx → Elt F e) (hw : w = M.view.read (Elt F) g) :
    (M.view.loc (c : Thread nD τ) ↦[M.view.set]{fullShare} (M.view.write (Elt F) fd w Finset.univ) : sProp (MM F)) = (M.view.loc (c : Thread nD τ) ↦[M.view.set]{fullShare} g) := by
  refine pointsTo_congr fun i hi => ?_
  obtain ⟨x, -, rfl⟩ := Finset.mem_image.mp (show i ∈ Finset.univ.image M.view.emb from by
    first | exact hi | simpa [View.set, View.setOn] using hi)
  subst hw
  rw [View.write_emb_of_mem _ _ (Finset.mem_univ x), View.read_apply, cast_cast]; rfl

/-- A copy to a peer: the window comes back with the send's cell, what it holds goes to the peer's. -/
theorem ht_send (d : Dev nD) (js jr : J) {sp sp' : Space} {s : Shape} {e : EltTy}
    (src : Memref sig .tc sp s e) (dst : Memref sig .tc sp' s e) (hsrc : src.view.WordExact) (hdst : dst.view.WordExact)
    (hsc : dst.view.ref.isScScratch = false)
    (hsem : DmaTarget.Typed (nD := nD) (τ := τ) sp (csem jr) (.remote (Dev.tc d) dst (csem js) hsc))
    (q : PosShare TreeShare) (fs : Buf (Elt F) (src.view.loc (c : Thread nD τ))) (fg : Buf (Elt F) (dst.view.loc (d : Thread nD τ)))
    (hN : dst.view.amount (csem jr) = amt jr) (hs : amt js = amt jr)
    (hps : pay m c js = At src c q fs) (hpr : pay m d jr = At dst d fullShare fg)
    (hread : src.view.read (Elt F) fs = dst.view.read (Elt F) fg) (O : CellTallies nD τ sig Unit) :
    HT m K c iprop((At src c q fs ∗ Any dst d ∗ dutyTok ER (cell c js) 0 0 ∗ dutyTok ER (cell d jr) 0 0) ∗ Ow c (tallyAt (cell d jr) () (amt jr) + O))
      (Prog.lift (.enqueueDma src (.remote (Dev.tc d) dst (csem js) hsc) (csem jr) hsrc hdst hsem))
      iprop(cred (tallyAt (cell c js) () (amt js)) ∗ Ow c O) := by
  unfold HT Ow Any
  rw [Prog.lift]
  iintro ⟨#HC, ⟨Hs, ⟨%fd, Hd⟩, Ht, Ht'⟩, ⟨%W, HO⟩⟩
  ihave #HI := (ctx_inv m K (c, some js)) $$ HC
  ihave #HI' := (ctx_inv m K (d, some jr)) $$ HC
  ihave #HR := (ctx_reached m K (c, some js)) $$ HC
  ihave #HR' := (ctx_reached m K (d, some jr)) $$ HC
  unfold At
  rw [show amt js = amt jr from hs]
  iapply (Rounds.wp_send_pointsTo 𝒱₀ ER (sched m) (c : Thread nD τ) none (κ₁ := K (c, some js)) (κ₂ := K (d, some jr))
    (r₁ := 0) (r₂ := 0) (d₁ := 0) (d₂ := 0) (fd := fd) (fs := fs) (q := q)
    (by rw [show ((c : Thread nD τ), csem js) = cell c js from rfl, duties_cell]; exact Finset.mem_singleton_self _)
    (by rw [show ((Dev.tc d : Thread nD τ), csem jr) = cell d jr from rfl, duties_cell]; exact Finset.mem_singleton_self _)
    () () (amt jr) hN ((amount_cell m c js 0).trans hs) (amount_cell m d jr 0) O (add_comm _ _) (W := W)
    ((Entails.of_eq (show _ = pay m c js from hps.symm)).trans (Entails.of_eq (payload_cell m c js 0).symm))
    ((Entails.of_eq ((at_write dst d fd fg _ hread).trans hpr.symm)).trans (Entails.of_eq (payload_cell m d jr 0).symm))) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨Hc, HO⟩
  rw [wp_ret]; imodintro
  isplitl [Hc]; · iexact Hc
  iexists _; iexact HO

/-- A barrier signal hands the receiver the windows it will send into. -/
theorem ht_signal (i : Fin 7) (O : CellTallies nD τ sig Unit) :
    HT m K c iprop((give c i ∗ dutyTok ER (barCell (peer c i)) 0 i) ∗ Ow c (tallyAt (barCell (peer c i)) () 1 + O)) (sig1 (peer c i)) iprop(emp ∗ Ow c O) := by
  unfold HT Ow sig1
  iintro ⟨#HC, ⟨Hg, Ht⟩, ⟨%W, HO⟩⟩
  ihave #HI := (ctx_inv m K (peer c i, none)) $$ HC
  ihave #HR := (ctx_reached m K (peer c i, none)) $$ HC
  simp only [semSignalWord]
  iapply (Rounds.wp_signal 𝒱₀ ER (sched m) (c : Thread nD τ) none (dst := (peer c i : Thread nD τ)) (κ := K (peer c i, none))
      (d := i) (r := 0) (by rw [show ((peer c i : Thread nD τ), SemLoc.reg barS) = barCell (peer c i) from rfl, duties_bar]; exact Finset.mem_univ _)
      ((amount_bar m (peer c i) i).trans (by decide)) () O (add_comm _ _)) $$ [HO Ht Hg]
  · isplitr; · iexact HI
    isplitl [HO]; · iexact HO
    isplitl [Ht]; · iexact Ht
    isplitl [Hg]
    · iapply (Entails.of_eq (payload_bar m (peer c i) i).symm); rw [back_peer]; iexact Hg
    iexact HR
  iintro HO
  rw [wp_ret]; imodintro
  isplitr; · iempintro
  iexists _; iexact HO

/-- The barrier: all seven peers' windows. -/
theorem ht_barrier (O : CellTallies nD τ sig Unit) (hO : Above 1 O) :
    HT m K c iprop((cred (tallyAt (barCell c) () 7) ∗ atPos ER (barCell c) 0 ∅ 0) ∗ Ow c O) waitBar
      iprop(((bigSep Finset.univ fun i => give (back c i) i) ∗ semVal (barCell c) 0) ∗ Ow c O) := by
  unfold HT Ow waitBar
  iintro ⟨#HC, ⟨Hc, Hat⟩, ⟨%W, HO⟩⟩
  ihave #HI := (ctx_inv m K (c, none)) $$ HC
  have hw := (ctx_lev m K).trans (mayWait (F := F) c (.reg barS) O (by rw [show ((c : Thread nD τ), SemLoc.reg barS) = barCell c from rfl, lv_bar]; exact hO))
  simp only [semWaitWord]
  iapply (Rounds.wp_wait_rest_token 𝒱₀ ER (sched m) (c : Thread nD τ) none (κ := K (c, none))
      (wpE_semWait_eq 𝒱₀ (c : Thread nD τ) none Set.univ) (Set.mem_univ _) () (O := O) (W := W) (R := 0) (m := 0) (T := ∅)
      ((show _ = 7 by decide).trans (expect_bar m c).symm)) $$ [Hc HO Hat]
  · isplitr; · iexact HI
    isplitl [Hc]; · iexact Hc
    isplitl [HO]; · iexact HO
    isplitr; · iapply hw; iexact HC
    iexact Hat
  iintro ⟨HO, Hat, -, Hpay⟩
  ihave Hp := (Entails.of_eq (rest_bar m c)) $$ Hpay
  imod (Rounds.cell_close ER (sched m) (Set.mem_univ (K (c, none))) (fun h => h) (R := 0 + 1) (duties_later m _)) $$ [Hat] with Hz
  · isplitr; · iexact HI
    iexact Hat
  rw [wp_ret]; imodintro
  isplitl [Hp Hz]
  · isplitl [Hp]; · iexact Hp
    iexact Hz
  iexists _; iexact HO

end Cert.KernelIdeal.RS

end
-- ==== Proof.Windows.lean ====
/- Buffers held window by window, and the steps that load and store. -/
module

public import proofs.«01_k».proof.Proof.Proto

@[expose] public section

set_option maxRecDepth 100000

noncomputable section

namespace Cert.KernelIdeal.RS

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Ring (pointsTo_blocks pointsTo_sub_blocks)

variable {F : FTy → Type} [FloatOps F]

/-- The kept chunk of the stripe, and the output's chunk `h` of stripe `i`, as windows. -/
abbrev xkW (c : Dev nD) (h : Fin 4) : Memref sig .tc .vmem S64x128 .f32 := xlM.slice (xkR c h) (fun _ => rfl)
abbrev oW (c : Dev nD) (i : Fin 8) (h : Fin 4) : Memref sig .tc .vmem S64x128 .f32 := oM.slice (oR c i h) (fun _ => rfl)

section Split
variable (c : Dev nD) (q : PosShare TreeShare)

omit [FloatOps F] in
/-- A whole buffer held as a window is the buffer held. -/
theorem at_whole (b : Ref sig .tc) (f : Buf (Elt F) ((c : Thread nD τ).loc b)) :
    At (Memref.whole b) c q f = (((c : Thread nD τ).loc b) ↦{q} f : sProp (MM F)) := by
  unfold At
  rw [show (Memref.whole b).view.set = Finset.univ from View.set_whole b]

/-- Seeing a chunk of the z-peers' buffer with two axes does not change its elements. -/
theorem set_p1W (h : Fin 4) (r : Fin 3) : (p1W h r).view.set = (p1R h r).set := by
  rw [Memref.set_view_squeeze]; exact View.set_slice_whole _ _
/-- The same in the y-peers' buffer. -/
theorem set_p2W (r : Fin 3) (h : Fin 4) : (p2W r h).view.set = (p2R r h).set := by
  rw [Memref.set_view_squeeze]; exact View.set_slice_whole _ _

omit [FloatOps F] in
/-- The stripe held is its chunks held. -/
theorem split_xl (f : (cc0_scratch0 : Ref sig .tc).ty.Contents (Elt F)) :
    At xlM c q f = iprop((bigSep Finset.univ fun h : Fin 4 => At (xkW c h) c q f) ∗ (bigSep Finset.univ fun i : Fin 4 × Fin 3 => At (xlW c i.1 i.2) c q f) : sProp (MM F)) := by
  rw [at_whole]
  refine (pointsTo_blocks (ℓ := (c : Thread nD τ).loc cc0_scratch0) (xlI c) (xl_apart c) (xl_cover c) f).trans ?_
  rw [bigSep_univ_sum]
  refine congrArg₂ BI.sep (congrArg (bigSep Finset.univ) (funext fun h => ?_)) (congrArg (bigSep Finset.univ) (funext fun i => ?_))
  · unfold At; rw [show (xkW c h).view.set = (xkR c h).set from View.set_slice_whole _ _]; rfl
  · unfold At; rw [show (xlW c i.1 i.2).view.set = (xlR c i.1 i.2).set from View.set_slice_whole _ _]; rfl
omit [FloatOps F] in
/-- The own sum held is its chunks held. -/
theorem split_ow (f : (cc0_scratch1 : Ref sig .tc).ty.Contents (Elt F)) :
    At owM c q f = (bigSep Finset.univ fun h : Fin 4 => At (owW h) c q f : sProp (MM F)) := by
  rw [at_whole]
  refine (pointsTo_blocks (ℓ := (c : Thread nD τ).loc cc0_scratch1) (fun h : Fin 4 => (owR h).set) ow_apart ow_cover f).trans ?_
  refine congrArg (bigSep Finset.univ) (funext fun h => ?_)
  unfold At; rw [show (owW h).view.set = (owR h).set from View.set_slice_whole _ _]
omit [FloatOps F] in
/-- The x-peer's sum held is its chunks held. -/
theorem split_xo (f : (cc0_scratch4 : Ref sig .tc).ty.Contents (Elt F)) :
    At xoM c q f = (bigSep Finset.univ fun h : Fin 4 => At (xoW h) c q f : sProp (MM F)) := by
  rw [at_whole]
  refine (pointsTo_blocks (ℓ := (c : Thread nD τ).loc cc0_scratch4) (fun h : Fin 4 => (owR h).set) ow_apart ow_cover f).trans ?_
  refine congrArg (bigSep Finset.univ) (funext fun h => ?_)
  unfold At; rw [show (xoW h).view.set = (owR h).set from View.set_slice_whole _ _]
omit [FloatOps F] in
/-- The z-peers' buffer held is its chunks held. -/
theorem split_p1 (f : (cc0_scratch2 : Ref sig .tc).ty.Contents (Elt F)) :
    At p1M c q f = (bigSep Finset.univ fun i : Fin 4 × Fin 3 => At (p1W i.1 i.2) c q f : sProp (MM F)) := by
  rw [at_whole]
  refine (pointsTo_blocks (ℓ := (c : Thread nD τ).loc cc0_scratch2) (fun i : Fin 4 × Fin 3 => (p1R i.1 i.2).set) p1_apart p1_cover f).trans ?_
  refine congrArg (bigSep Finset.univ) (funext fun i => ?_)
  unfold At; rw [set_p1W]
omit [FloatOps F] in
/-- The y-peers' buffer held is its slots' chunks held. -/
theorem split_p2 (f : (cc0_scratch3 : Ref sig .tc).ty.Contents (Elt F)) :
    At p2M c q f = (bigSep Finset.univ fun i : Fin 4 × Fin 3 => At (p2W i.2 i.1) c q f : sProp (MM F)) := by
  rw [at_whole]
  refine (pointsTo_blocks (ℓ := (c : Thread nD τ).loc cc0_scratch3) (fun i : Fin 4 × Fin 3 => (p2R i.2 i.1).set) p2_apart p2_cover f).trans ?_
  refine congrArg (bigSep Finset.univ) (funext fun i => ?_)
  unfold At; rw [set_p2W]
omit [FloatOps F] in
/-- The y-peers' buffer held is its chunks of all slots held. -/
theorem split_p2b (f : (cc0_scratch3 : Ref sig .tc).ty.Contents (Elt F)) :
    At p2M c q f = (bigSep Finset.univ fun h : Fin 4 => At (p2bW h) c q f : sProp (MM F)) := by
  rw [at_whole]
  refine (pointsTo_blocks (ℓ := (c : Thread nD τ).loc cc0_scratch3) (fun h : Fin 4 => (p2bR h).set) p2b_apart p2b_cover f).trans ?_
  refine congrArg (bigSep Finset.univ) (funext fun h => ?_)
  unfold At; rw [show (p2bW h).view.set = (p2bR h).set from View.set_slice_whole _ _]
omit [FloatOps F] in
/-- The relayed buffer held is its chunks of all slots held. -/
theorem split_xp (f : (cc0_scratch5 : Ref sig .tc).ty.Contents (Elt F)) :
    At xpM c q f = (bigSep Finset.univ fun h : Fin 4 => At (xpbW h) c q f : sProp (MM F)) := by
  rw [at_whole]
  refine (pointsTo_blocks (ℓ := (c : Thread nD τ).loc cc0_scratch5) (fun h : Fin 4 => (p2bR h).set) p2b_apart p2b_cover f).trans ?_
  refine congrArg (bigSep Finset.univ) (funext fun h => ?_)
  unfold At; rw [show (xpbW h).view.set = (p2bR h).set from View.set_slice_whole _ _]
omit [FloatOps F] in
/-- The three slots of chunk `h` together. -/
theorem split_slots (h : Fin 4) (f : (cc0_scratch3 : Ref sig .tc).ty.Contents (Elt F)) :
    At (p2bW h) c q f = (bigSep Finset.univ fun r : Fin 3 => At (p2W r h) c q f : sProp (MM F)) := by
  unfold At
  rw [show (p2bW h).view.set = (p2bR h).set from View.set_slice_whole _ _]
  refine (pointsTo_sub_blocks (ℓ := (c : Thread nD τ).loc cc0_scratch3) (fun r : Fin 3 => (p2R r h).set) (p2s_apart h) _ (p2s_cover h) f).trans ?_
  refine congrArg (bigSep Finset.univ) (funext fun r => ?_)
  rw [set_p2W]
omit [FloatOps F] in
/-- The output held is its stripes' chunks held. -/
theorem split_o (f : (cc0_stg0_0 : Ref sig .tc).ty.Contents (Elt F)) :
    At oM c q f = (bigSep Finset.univ fun i : Fin 8 × Fin 4 => At (oW c i.1 i.2) c q f : sProp (MM F)) := by
  rw [at_whole]
  refine (pointsTo_blocks (ℓ := (c : Thread nD τ).loc cc0_stg0_0) (fun i : Fin 8 × Fin 4 => (oR c i.1 i.2).set) (o_apart c) (o_cover c) f).trans ?_
  refine congrArg (bigSep Finset.univ) (funext fun i => ?_)
  unfold At; rw [show (oW c i.1 i.2).view.set = (oR c i.1 i.2).set from View.set_slice_whole _ _]

omit [FloatOps F] in
/-- A window's read shares. -/
theorem at_toks {sp : Space} {s : Shape} {e : EltTy} (M : Memref sig .tc sp s e) (f : Buf (Elt F) (M.view.loc (c : Thread nD τ))) (n : ℕ) :
    At M c q f = iprop(At M c (shareDrop q n) f ∗ bigSep Finset.univ fun i : Fin n => At M c (shareTok q n i) f : sProp (MM F)) :=
  by unfold At; exact equiv_iff.mp ⟨(pointsTo_toks q n).1, (pointsTo_toks q n).2⟩
end Split

/-! ## Loads and stores -/

variable {m : (ℓ : Loc nD τ sig) → Buf (Elt F) ℓ} {K : Dev nD × Option J → ℕ} {c : Dev nD}

/-- A chunk of a 64 × 512 buffer into the output. -/
theorem ht_put (M : Memref sig .tc .vmem S64x512 .f32) (n : ℕ) (hn : n + 64 ≤ 512) (h : Fin 4) (q : PosShare TreeShare)
    (f : Buf (Elt F) (M.view.loc (c : Thread nD τ))) (g : (cc0_stg0_0 : Ref sig .tc).ty.Contents (Elt F))
    (hr : M.view.readAt (Elt F) (owR h).toLoadRect f = (oM.access (outR n hn h)).read (Elt F) g) :
    HT m K c iprop(At (M.slice (owR h) (fun _ => rfl)) c q f ∗ Any (oM.slice (outR n hn h) (fun _ => rfl)) c) (put M n hn h)
      iprop(At (M.slice (owR h) (fun _ => rfl)) c q f ∗ At (oM.slice (outR n hn h) (fun _ => rfl)) c fullShare g) := by
  unfold HT Any put
  simp only [Prog.lift, Prog.bind_op, Prog.bind_ret, Prog.pure_eq_ret]
  iintro ⟨-, Hs, ⟨%f0, Ho⟩⟩
  unfold At
  iapply (wp_load_rect 𝒱₀ (c : Thread nD τ) none Set.univ (m := M) (r := owR h) (subset_refl _)) $$ Hs; iintro Hs
  iapply (wp_load_rect 𝒱₀ (c : Thread nD τ) none Set.univ (m := oM) (r := outR n hn h) (subset_refl _)) $$ Ho; iintro Ho
  iapply (wp_store 𝒱₀ (c : Thread nD τ) none Set.univ (m := oM) (r := outR n hn h) (Mk := Finset.univ) (S := (oM.access (outR n hn h)).set) (subset_refl _)) $$ Ho; iintro Ho
  rw [wp_ret]; imodintro
  isplitl [Hs]; · iexact Hs
  iapply (Entails.of_eq (at_write (oM.slice (outR n hn h) (fun _ => rfl)) c f0 g _ hr))
  iexact Ho

/-- A chunk of a slot of a 3 × 64 × 512 buffer into the output. -/
theorem ht_putSlot (M : Memref sig .tc .vmem S3x64x512 .f32) (n : ℕ) (hn : n + 64 ≤ 512) (h : Fin 4) (r : Fin 3) (q : PosShare TreeShare)
    (f : Buf (Elt F) (M.view.loc (c : Thread nD τ))) (g : (cc0_stg0_0 : Ref sig .tc).ty.Contents (Elt F))
    (hr : k0_pay7 (M.view.readAt (Elt F) (p2R r h).toLoadRect f) = (oM.access (outR n hn h)).read (Elt F) g)
    (hS : (M.access (p2R r h)).set ⊆ (M.access (p2bR h)).set) :
    HT m K c iprop(At (M.slice (p2bR h) (fun _ => rfl)) c q f ∗ Any (oM.slice (outR n hn h) (fun _ => rfl)) c) (putSlot M n hn h r)
      iprop(At (M.slice (p2bR h) (fun _ => rfl)) c q f ∗ At (oM.slice (outR n hn h) (fun _ => rfl)) c fullShare g) := by
  unfold HT Any putSlot
  simp only [Prog.lift, Prog.bind_op, Prog.bind_ret, Prog.pure_eq_ret]
  iintro ⟨-, Hs, ⟨%f0, Ho⟩⟩
  unfold At
  iapply (wp_load_rect 𝒱₀ (c : Thread nD τ) none Set.univ (m := M) (r := p2R r h) hS) $$ Hs; iintro Hs
  iapply (wp_load_rect 𝒱₀ (c : Thread nD τ) none Set.univ (m := oM) (r := outR n hn h) (subset_refl _)) $$ Ho; iintro Ho
  iapply (wp_store 𝒱₀ (c : Thread nD τ) none Set.univ (m := oM) (r := outR n hn h) (Mk := Finset.univ) (S := (oM.access (outR n hn h)).set) (subset_refl _)) $$ Ho; iintro Ho
  rw [wp_ret]; imodintro
  isplitl [Hs]; · iexact Hs
  iapply (Entails.of_eq (at_write (oM.slice (outR n hn h) (fun _ => rfl)) c f0 g _ hr))
  iexact Ho
/-- A load from one slot's chunk stays inside the chunk of all slots. -/
theorem p2_access_sub (r : Fin 3) (h : Fin 4) : (p2M.access (p2R r h)).set ⊆ (p2M.access (p2bR h)).set := by
  rw [show (p2M.access (p2R r h)).set = (p2R r h).set from View.set_slice_whole _ _, show (p2M.access (p2bR h)).set = (p2bR h).set from View.set_slice_whole _ _]
  exact p2R_sub r h
/-- The same in the relayed buffer. -/
theorem xp_access_sub (r : Fin 3) (h : Fin 4) : (xpM.access (p2R r h)).set ⊆ (xpM.access (p2bR h)).set := by
  rw [show (xpM.access (p2R r h)).set = (p2R r h).set from View.set_slice_whole _ _, show (xpM.access (p2bR h)).set = (p2bR h).set from View.set_slice_whole _ _]
  exact p2R_sub r h

/-- Adding up chunk `h`: the kept chunk and the three received. -/
theorem ht_addUp (h : Fin 4) :
    HT m K c iprop(At (xkW c h) c fullShare (XL m c) ∗ (bigSep Finset.univ fun r : Fin 3 => At (p1W h r) c fullShare (P1 m c)) ∗ Any (owW h) c)
      (addUp c h)
      iprop(At (xkW c h) c fullShare (XL m c) ∗ (bigSep Finset.univ fun r : Fin 3 => At (p1W h r) c fullShare (P1 m c)) ∗ At (owW h) c fullShare (OWN m c)) := by
  have hp (r : Fin 3) : (p1M.access (p1R h r)).set ⊆ (p1W h r).view.set := by
    rw [set_p1W]; exact subset_of_eq (View.set_slice_whole _ _)
  rw [bigSep_univ_eq_bigSepL [0, 1, 2] (by decide) (by decide), bigSepL_cons', bigSepL_cons', bigSepL_singleton]
  unfold HT Any addUp
  simp only [Prog.lift, Prog.bind_op, Prog.bind_ret, Prog.pure_eq_ret]
  iintro ⟨-, Hx, ⟨H0, H1, H2⟩, ⟨%f0, Ho⟩⟩
  unfold At
  iapply (wp_load_rect 𝒱₀ (c : Thread nD τ) none Set.univ (m := xlM) (r := xkR c h) (subset_refl _)) $$ Hx; iintro Hx
  iapply (wp_load_rect 𝒱₀ (c : Thread nD τ) none Set.univ (m := p1M) (r := p1R h 0) (hp 0)) $$ H0; iintro H0
  iapply (wp_load_rect 𝒱₀ (c : Thread nD τ) none Set.univ (m := p1M) (r := p1R h 1) (hp 1)) $$ H1; iintro H1
  iapply (wp_load_rect 𝒱₀ (c : Thread nD τ) none Set.univ (m := p1M) (r := p1R h 2) (hp 2)) $$ H2; iintro H2
  iapply (wp_load_rect 𝒱₀ (c : Thread nD τ) none Set.univ (m := owM) (r := owR h) (subset_refl _)) $$ Ho; iintro Ho
  iapply (wp_store 𝒱₀ (c : Thread nD τ) none Set.univ (m := owM) (r := owR h) (Mk := Finset.univ) (S := (owM.access (owR h)).set) (subset_refl _)) $$ Ho; iintro Ho
  rw [wp_ret]; imodintro
  isplitl [Hx]; · iexact Hx
  isplitl [H0 H1 H2]
  · isplitl [H0]; · iexact H0
    isplitl [H1]; · iexact H1
    iexact H2
  iapply (Entails.of_eq (at_write (owW h) c f0 (OWN m c) _ (read_addUp m c h)))
  iexact Ho

/-- The first copy reads what the stripe's buffer is to hold. -/
theorem read_copyIn : (stripeW c).view.read (Elt F) (XA m c) = xlM.view.read (Elt F) (XL m c) := by
  unfold XL; exact (View.read_whole cc0_scratch0 _).symm
/-- A local copy: both windows come back with the copy's cell. -/
theorem ht_copy (j : J) {sp sp' : Space} {s : Shape} {e : EltTy}
    (src : Memref sig .tc sp s e) (dst : Memref sig .tc sp' s e) (hsrc : src.view.WordExact) (hdst : dst.view.WordExact)
    (hsem : DmaTarget.Typed sp (csem j) (.here dst : DmaTarget nD τ sig .tc sp' s e))
    (fs : Buf (Elt F) (src.view.loc (c : Thread nD τ))) (fg : Buf (Elt F) (dst.view.loc (c : Thread nD τ)))
    (hN : dst.view.amount (csem j) = amt j)
    (hp : pay m c j = iprop(At dst c fullShare fg ∗ At src c fullShare fs))
    (hread : src.view.read (Elt F) fs = dst.view.read (Elt F) fg) :
    HT m K c iprop(At src c fullShare fs ∗ Any dst c ∗ dutyTok ER (cell c j) 0 0)
      (Prog.lift (.enqueueDma src (.here dst) (csem j) hsrc hdst hsem)) (cred (tallyAt (cell c j) () (amt j))) := by
  unfold HT Any
  rw [Prog.lift]
  iintro ⟨#HC, Hs, ⟨%fd, Hd⟩, Ht⟩
  ihave #HI := (ctx_inv m K (c, some j)) $$ HC
  ihave #HR := (ctx_reached m K (c, some j)) $$ HC
  unfold At at hp ⊢
  iapply (Rounds.wp_copy_pointsTo 𝒱₀ ER (sched m) (c : Thread nD τ) none (κ := K (c, some j)) (r := 0) (d := 0) (fd := fd) (fs := fs) (q := fullShare)
    (by rw [show ((c : Thread nD τ), csem j) = cell c j from rfl, duties_cell]; exact Finset.mem_singleton_self _)
    () (amt j) hN (amount_cell m c j 0)
    ((sep_mono_left (Entails.of_eq (at_write dst c fd fg _ hread))).trans ((Entails.of_eq hp.symm).trans (Entails.of_eq (payload_cell m c j 0).symm)))) $$ [Hs Hd Ht]
  · isplitr; · iexact HI
    isplitl [Hs]; · iexact Hs
    isplitl [Hd]; · iexact Hd
    isplitl [Ht]; · iexact Ht
    iexact HR
  iintro Hc
  rw [wp_ret]; imodintro
  iexact Hc
/-- The copy in. -/
theorem ht_copyIn : HT m K c iprop(At (stripeW c) c fullShare (XA m c) ∗ Any xlM c ∗ dutyTok ER (cell c .loc) 0 0) (copyIn c)
    (cred (tallyAt (cell c .loc) () (amt .loc))) :=
  ht_copy .loc (stripeW c) xlM _ _ _ (XA m c) (XL m c) rfl rfl read_copyIn

end Cert.KernelIdeal.RS

end
-- ==== Proof.Body.lean ====
/- The program of one device, run from its start to its end. -/
module

public import proofs.«01_k».proof.Proof.Windows

@[expose] public section

set_option maxRecDepth 100000

noncomputable section

namespace Cert.KernelIdeal.RS

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]
variable {m : (ℓ : Loc nD τ sig) → Buf (Elt F) ℓ} {K : Dev nD × Option J → ℕ} {c : Dev nD}

/-! ## Running a list of steps -/

section Run
variable {P Q R : sProp (MM F)} {p : BP F} {ps : List (BP F)}

/-- Running the first step of a list. -/
theorem run_step (h : HT m K c P p Q) {Φ : PUnit → sProp (MM F)} :
    iprop(Ctx m K ∗ P) ⊢ iprop((Q -∗ wp frame (wpE (defs₀ (F := F)) 𝒱₀ (c : Thread nD τ) none) Set.univ (seqs ps) Φ)
      -∗ wp frame (wpE (defs₀ (F := F)) 𝒱₀ (c : Thread nD τ) none) Set.univ (seqs (p :: ps)) Φ) := by
  unfold HT at h
  rw [seqs, wp_bind]
  iintro ⟨#HC, HP⟩ Hk
  ihave H := h $$ [HP]
  · isplitr; · iexact HC
    iexact HP
  iapply (wp_wand _ _ _) $$ H
  iintro %a HQ
  iapply Hk; iexact HQ
/-- Running an empty list. -/
theorem run_nil {Φ : PUnit → sProp (MM F)} :
    Φ ⟨⟩ ⊢ wp frame (wpE (defs₀ (F := F)) 𝒱₀ (c : Thread nD τ) none) Set.univ (seqs []) Φ := by
  rw [seqs, Prog.pure_eq_ret, wp_ret]; iintro H; imodintro; iexact H

/-- A loop whose turns share `R`. -/
theorem HT.loop0 {I : Type} [Fintype I] [DecidableEq I] (l : List I) (hl : Finset.univ = l.toFinset) (hn : l.Nodup)
    (pre post : I → sProp (MM F)) (step : I → BP F) (R : sProp (MM F)) (h : ∀ i, HT m K c iprop(pre i ∗ R) (step i) iprop(post i ∗ R)) :
    HT m K c iprop(bigSep Finset.univ pre ∗ R) (seqs (l.map step)) iprop(bigSep Finset.univ post ∗ R) := by
  rw [bigSep_univ_eq_bigSepL l hl hn, bigSep_univ_eq_bigSepL l hl hn]
  clear hl hn
  induction l with
  | nil => exact HT.nil
  | cons i l ih =>
    rw [List.map_cons, bigSepL_cons', bigSepL_cons']
    refine HT.cons (((h i).frame (bigSepL l pre)).conseq (Q' := iprop((bigSepL l pre ∗ R) ∗ post i)) ?_ ?_) ((ih.frame (post i)).conseq (BI.Entails.refl _) ?_)
    · iintro ⟨⟨H1, H2⟩, H3⟩
      isplitl [H1 H3]
      · isplitl [H1]; · iexact H1
        iexact H3
      iexact H2
    · iintro ⟨⟨H1, H2⟩, H3⟩
      isplitl [H3 H2]
      · isplitl [H3]; · iexact H3
        iexact H2
      iexact H1
    · iintro ⟨⟨H1, H2⟩, H3⟩
      isplitl [H1 H3]
      · isplitl [H3]; · iexact H3
        iexact H1
      iexact H2
end Run

/-- The list of chunks has them all. -/
theorem hs_univ : (Finset.univ : Finset (Fin 4)) = hs.toFinset := by decide
/-- The list of peers has them all. -/
theorem ks_univ : (Finset.univ : Finset (Fin 3)) = ks.toFinset := by decide
/-- The list of pairs has them all. -/
theorem hks_univ : (Finset.univ : Finset (Fin 4 × Fin 3)) = hks.toFinset := by decide
/-- It has each chunk once. -/
theorem hs_nodup : hs.Nodup := by decide
/-- It has each peer once. -/
theorem ks_nodup : ks.Nodup := by decide
/-- It has each pair once. -/
theorem hks_nodup : hks.Nodup := by decide

/-! ## What is owed -/

def dBar (c : Dev nD) (i : Fin 7) : CellTallies nD τ sig Unit := tallyAt (barCell (peer c i)) () 1
def dR1 (c : Dev nD) (i : Fin 4 × Fin 3) : CellTallies nD τ sig Unit := tallyAt (cell (zdev c i.2) (.r1 i.1 i.2.rev)) () (amt (.r1 i.1 i.2.rev))
def dR2 (c : Dev nD) (h : Fin 4) (k : Fin 3) : CellTallies nD τ sig Unit := tallyAt (cell (ydev c k) (.r2 h k.rev)) () (amt (.r2 h k.rev))
def dR3a (c : Dev nD) (h : Fin 4) : CellTallies nD τ sig Unit := tallyAt (cell (xdev c) (.r3a h)) () (amt (.r3a h))
def dR3b (c : Dev nD) (h : Fin 4) : CellTallies nD τ sig Unit := tallyAt (cell (xdev c) (.r3b h)) () (amt (.r3b h))
/-- Owed by the second phase's chunk `h`. -/
def dB (c : Dev nD) (h : Fin 4) : CellTallies nD τ sig Unit := (ks.map (dR2 c h)).sum + dR3a c h
/-- Owed once the barrier's signals, the first phase's sends, the second's are made. -/
def O3 (c : Dev nD) : CellTallies nD τ sig Unit := (hs.map (dR3b c)).sum + 0
def O2 (c : Dev nD) : CellTallies nD τ sig Unit := (hs.map (dB c)).sum + O3 c
def O1 (c : Dev nD) : CellTallies nD τ sig Unit := (hks.map (dR1 c)).sum + O2 c
def O₀ (c : Dev nD) : CellTallies nD τ sig Unit := ((List.finRange 7).map (dBar c)).sum + O1 c

/-- A debt at a copy's cell is above every level below the cell's. -/
theorem above_cell {n : ℕ} (d : Dev nD) (j : J) (k : ℕ) (h : n < jlv j) : Above n (tallyAt (cell d j) () k) :=
  above_tally d (csem j) k (by rw [show ((d : Thread nD τ), csem j) = cell d j from rfl, lv_cell]; exact h)
/-- A barrier signal owed is above level 0. -/
theorem above_dBar (c : Dev nD) (i : Fin 7) : Above 0 (dBar c i) :=
  above_tally _ _ _ (by rw [show ((peer c i : Thread nD τ), SemLoc.reg barS) = barCell (peer c i) from rfl, lv_bar]; exact Nat.one_pos)
/-- A copy along z owed is above level 1. -/
theorem above_dR1 (c : Dev nD) (i : Fin 4 × Fin 3) : Above 1 (dR1 c i) := above_cell _ _ _ (by show 1 < 2; decide)
/-- A copy along y owed is above level 2. -/
theorem above_dR2 (c : Dev nD) (h : Fin 4) (k : Fin 3) : Above 2 (dR2 c h k) := above_cell _ _ _ (by show 2 < 3; decide)
/-- A copy along x owed is above level 3. -/
theorem above_dR3a (c : Dev nD) (h : Fin 4) : Above 3 (dR3a c h) := above_cell _ _ _ (by show 3 < 4; decide)
/-- A relay owed is above level 3. -/
theorem above_dR3b (c : Dev nD) (h : Fin 4) : Above 3 (dR3b c h) := above_cell _ _ _ (by show 3 < 4; decide)
/-- What one chunk's second phase owes is above level 2. -/
theorem above_dB (c : Dev nD) (h : Fin 4) : Above 2 (dB c h) :=
  above_add (above_sum _ _ (above_dR2 c h)) (above_mono (above_dR3a c h) (by decide))
/-- What is owed from the third phase on is above level 3. -/
theorem above_O3 (c : Dev nD) : Above 3 (O3 c) := above_add (above_sum _ _ (above_dR3b c)) (above_zero 3)
/-- What is owed from the second phase on is above level 2. -/
theorem above_O2 (c : Dev nD) : Above 2 (O2 c) := above_add (above_sum _ _ (above_dB c)) (above_mono (above_O3 c) (by decide))
/-- What is owed from the first phase on is above level 1. -/
theorem above_O1 (c : Dev nD) : Above 1 (O1 c) := above_add (above_sum _ _ (above_dR1 c)) (above_mono (above_O2 c) (by decide))
/-- What is owed at the start is above level 0. -/
theorem above_O₀ (c : Dev nD) : Above 0 (O₀ c) := above_add (above_sum _ _ (above_dBar c)) (above_mono (above_O1 c) (by decide))

/-! ## Barrier -/

section Give
omit [FloatOps F] in
/-- A family over seven, written out. -/
theorem seven (Φ : Fin 7 → sProp (MM F)) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]; rfl
omit [FloatOps F] in
/-- A family over three, written out. -/
theorem three (Φ : Fin 3 → sProp (MM F)) : bigSep Finset.univ Φ = iprop(Φ 0 ∗ Φ 1 ∗ Φ 2) := by
  rw [bigSep_univ_eq_bigSepL [0, 1, 2] (by decide) (by decide)]; rfl
omit [FloatOps F] in
/-- A family over four, written out. -/
theorem four (Φ : Fin 4 → sProp (MM F)) : bigSep Finset.univ Φ = iprop(Φ 0 ∗ Φ 1 ∗ Φ 2 ∗ Φ 3) := by
  rw [bigSep_univ_eq_bigSepL [0, 1, 2, 3] (by decide) (by decide)]; rfl

omit [FloatOps F] in
/-- A window held at some contents is a window held. -/
theorem any_of {sp : Space} {s : Shape} {e : EltTy} (M : Memref sig .tc sp s e) (c : Dev nD) (f : Buf (Elt F) (M.view.loc (c : Thread nD τ))) :
    (At M c fullShare f : sProp (MM F)) ⊢ Any M c := by unfold Any; iintro H; iexists f; iexact H

omit [FloatOps F] in
/-- The z-peers' buffer is what the three z-signals give away. -/
theorem any_p1 (c : Dev nD) : (Any p1M c : sProp (MM F)) ⊢ bigSep Finset.univ fun r : Fin 3 => giveZ c r := by
  unfold giveZ
  rw [bigSep_univ_comm (fun (r : Fin 3) (h : Fin 4) => (Any (p1W h r) c : sProp (MM F))),
    ← bigSep_univ_prod (fun i : Fin 4 × Fin 3 => (Any (p1W i.1 i.2) c : sProp (MM F)))]
  refine exists_elim fun f => ?_
  exact (Entails.of_eq (split_p1 c fullShare f)).trans (bigSep_mono fun i _ => any_of (p1W i.1 i.2) c f)
omit [FloatOps F] in
/-- The y-peers' buffer is what the three y-signals give away. -/
theorem any_p2 (c : Dev nD) : (Any p2M c : sProp (MM F)) ⊢ bigSep Finset.univ fun r : Fin 3 => giveY c r := by
  unfold giveY
  rw [bigSep_univ_comm (fun (r : Fin 3) (h : Fin 4) => (Any (p2W r h) c : sProp (MM F))),
    ← bigSep_univ_prod (fun i : Fin 4 × Fin 3 => (Any (p2W i.2 i.1) c : sProp (MM F)))]
  refine exists_elim fun f => ?_
  exact (Entails.of_eq (split_p2 c fullShare f)).trans (bigSep_mono fun i _ => any_of (p2W i.2 i.1) c f)
omit [FloatOps F] in
/-- The two buffers for the x-peer are what the x-signal gives away. -/
theorem any_x (c : Dev nD) : iprop(Any xoM c ∗ Any xpM c : sProp (MM F)) ⊢ giveX c := by
  unfold giveX
  rw [bigSep_sep']
  refine sep_mono (exists_elim fun f => ?_) (exists_elim fun f => ?_)
  · exact (Entails.of_eq (split_xo c fullShare f)).trans (bigSep_mono fun i _ => any_of (xoW i) c f)
  · exact (Entails.of_eq (split_xp c fullShare f)).trans (bigSep_mono fun i _ => any_of (xpbW i) c f)
omit [FloatOps F] in
/-- The device's receive buffers, handed out by signal. -/
theorem give_all (c : Dev nD) : iprop(Any p1M c ∗ Any p2M c ∗ Any xoM c ∗ Any xpM c : sProp (MM F)) ⊢ bigSep Finset.univ fun i => give c i := by
  rw [seven]
  iintro ⟨H1, H2, H3⟩
  ihave H1 := (any_p1 c) $$ H1
  ihave H2 := (any_p2 c) $$ H2
  ihave H3 := (any_x c) $$ H3
  ihave H1 := (Entails.of_eq (three _)) $$ H1
  ihave H2 := (Entails.of_eq (three _)) $$ H2
  icases H1 with ⟨A0, A1, A2⟩
  icases H2 with ⟨B0, B1, B2⟩
  unfold give
  isplitl [A0]; · iexact A0
  isplitl [A1]; · iexact A1
  isplitl [A2]; · iexact A2
  isplitl [B0]; · iexact B0
  isplitl [B1]; · iexact B1
  isplitl [B2]; · iexact B2
  iexact H3
omit [FloatOps F] in
/-- What the barrier hands over: the windows of the peers that the device sends into. -/
theorem take_all (c : Dev nD) : (bigSep Finset.univ fun i => give (back c i) i : sProp (MM F)) ⊢
    iprop((bigSep Finset.univ fun i : Fin 4 × Fin 3 => Any (p1W i.1 i.2.rev) (zdev c i.2))
      ∗ (bigSep Finset.univ fun h : Fin 4 => bigSep Finset.univ fun k : Fin 3 => Any (p2W k.rev h) (ydev c k))
      ∗ bigSep Finset.univ fun h : Fin 4 => iprop(Any (xoW h) (xdev c) ∗ Any (xpbW h) (xdev c))) := by
  rw [seven, bigSep_univ_prod]
  rw [bigSep_univ_comm (fun (h : Fin 4) (k : Fin 3) => (Any (p1W h k.rev) (zdev c k) : sProp (MM F))),
    bigSep_univ_comm (fun (h : Fin 4) (k : Fin 3) => (Any (p2W k.rev h) (ydev c k) : sProp (MM F))), three, three]
  unfold give
  show iprop(giveZ (zdev c 2) 0 ∗ giveZ (zdev c 1) 1 ∗ giveZ (zdev c 0) 2 ∗ giveY (ydev c 2) 0 ∗ giveY (ydev c 1) 1 ∗ giveY (ydev c 0) 2 ∗ giveX (xdev c))
    ⊢ iprop((giveZ (zdev c 0) 2 ∗ giveZ (zdev c 1) 1 ∗ giveZ (zdev c 2) 0) ∗ (giveY (ydev c 0) 2 ∗ giveY (ydev c 1) 1 ∗ giveY (ydev c 2) 0) ∗ giveX (xdev c))
  iintro ⟨A2, A1, A0, B2, B1, B0, X⟩
  isplitl [A0 A1 A2]
  · isplitl [A0]; · iexact A0
    isplitl [A1]; · iexact A1
    iexact A2
  isplitl [B0 B1 B2]
  · isplitl [B0]; · iexact B0
    isplitl [B1]; · iexact B1
    iexact B2
  iexact X
end Give

/-! ## Second phase, chunk `h` -/

omit [FloatOps F] in
/-- The last of four, put apart. -/
theorem four_right (A B C D : sProp (MM F)) : iprop(A ∗ B ∗ C ∗ D) = iprop((A ∗ B ∗ C) ∗ D) := by
  refine BI.equiv_iff.mp ⟨?_, ?_⟩
  · show iprop(A ∗ B ∗ C ∗ D) ⊢ iprop((A ∗ B ∗ C) ∗ D)
    iintro ⟨A, B, C, D⟩
    isplitl [A B C]
    · isplitl [A]; · iexact A
      isplitl [B]; · iexact B
      iexact C
    iexact D
  · show iprop((A ∗ B ∗ C) ∗ D) ⊢ iprop(A ∗ B ∗ C ∗ D)
    iintro ⟨⟨A, B, C⟩, D⟩
    isplitl [A]; · iexact A
    isplitl [B]; · iexact B
    isplitl [C]; · iexact C
    iexact D
/-- A sum's chunk in shares: one to read, one for each send. -/
theorem own_shares (h : Fin 4) : (At (owW h) c fullShare (OWN m c) : sProp (MM F))
    = iprop(At (owW h) c rest4 (OWN m c) ∗ (bigSep Finset.univ fun k : Fin 3 => At (owW h) c (tok4 k.castSucc) (OWN m c)) ∗ At (owW h) c (tok4 3) (OWN m c)) := by
  rw [at_toks c fullShare (owW h) (OWN m c) 4, four, three]
  exact congrArg (BI.sep _) (four_right _ _ _ _)
/-- A chunk of the y-peers' buffer in two shares: one to read, one to relay. -/
theorem p2_shares (h : Fin 4) : (At (p2bW h) c fullShare (P2 m c) : sProp (MM F))
    = iprop(At (p2bW h) c rest1 (P2 m c) ∗ At (p2bW h) c tok1 (P2 m c)) := by
  rw [at_toks c fullShare (p2bW h) (P2 m c) 1, bigSep_univ_eq_bigSepL [0] (by decide) (by decide)]; rfl

/-- The tokens of the sends of each phase. -/
def tk1 (c : Dev nD) (i : Fin 4 × Fin 3) : sProp (MM F) := iprop(dutyTok ER (cell c (.s1 i.1 i.2)) 0 0 ∗ dutyTok ER (cell (zdev c i.2) (.r1 i.1 i.2.rev)) 0 0)
def tk2 (c : Dev nD) (h : Fin 4) (k : Fin 3) : sProp (MM F) := iprop(dutyTok ER (cell c (.s2 h k)) 0 0 ∗ dutyTok ER (cell (ydev c k) (.r2 h k.rev)) 0 0)
def tk3a (c : Dev nD) (h : Fin 4) : sProp (MM F) := iprop(dutyTok ER (cell c (.s3a h)) 0 0 ∗ dutyTok ER (cell (xdev c) (.r3a h)) 0 0)
def tk3b (c : Dev nD) (h : Fin 4) : sProp (MM F) := iprop(dutyTok ER (cell c (.s3b h)) 0 0 ∗ dutyTok ER (cell (xdev c) (.r3b h)) 0 0)
/-- The units a copy's cell will get. -/
def cr (c : Dev nD) (j : J) : sProp (MM F) := cred (tallyAt (cell c j) () (amt j))
def ps (c : Dev nD) (j : J) : sProp (MM F) := atPos ER (cell c j) 0 ∅ 0
/-- A copy's cell closed. -/
def done (c : Dev nD) (j : J) : sProp (MM F) := semVal (cell c j) 0
omit [FloatOps F] in
/-- What is due at a cell is the credit and the position. -/
theorem due_eq (c : Dev nD) (j : J) : (Due c j : sProp (MM F)) = iprop(cr c j ∗ ps c j) := rfl

/-- A copy along z pays its debt and leaves the credit of its end. -/
theorem ht_send1 (i : Fin 4 × Fin 3) (O : CellTallies nD τ sig Unit) :
    HT m K c iprop((At (xlW c i.1 i.2) c fullShare (XL m c) ∗ Any (p1W i.1 i.2.rev) (zdev c i.2) ∗ tk1 c i) ∗ Ow c (dR1 c i + O))
      (send1 c i.1 i.2) iprop(cr c (.s1 i.1 i.2) ∗ Ow c O) :=
  ht_send (zdev c i.2) (.s1 i.1 i.2) (.r1 i.1 i.2.rev) (xlW c i.1 i.2) (p1W i.1 i.2.rev) _ _ _ _ fullShare (XL m c) (P1 m (zdev c i.2))
    rfl rfl rfl rfl (read_send1 m c i.1 i.2) O
/-- A copy along y pays its debt and leaves the credit of its end. -/
theorem ht_send2 (h : Fin 4) (k : Fin 3) (O : CellTallies nD τ sig Unit) :
    HT m K c iprop((At (owW h) c (tok4 k.castSucc) (OWN m c) ∗ Any (p2W k.rev h) (ydev c k) ∗ tk2 c h k) ∗ Ow c (dR2 c h k + O))
      (send2 c h k) iprop(cr c (.s2 h k) ∗ Ow c O) :=
  ht_send (ydev c k) (.s2 h k) (.r2 h k.rev) (owW h) (p2W k.rev h) _ _ _ _ (tok4 k.castSucc) (OWN m c) (P2 m (ydev c k))
    rfl rfl rfl rfl (read_send2 m c h k) O
/-- A copy of the own sum along x pays its debt and leaves the credit of its end. -/
theorem ht_send3a (h : Fin 4) (O : CellTallies nD τ sig Unit) :
    HT m K c iprop((At (owW h) c (tok4 3) (OWN m c) ∗ Any (xoW h) (xdev c) ∗ tk3a c h) ∗ Ow c (dR3a c h + O))
      (send3a c h) iprop(cr c (.s3a h) ∗ Ow c O) :=
  ht_send (xdev c) (.s3a h) (.r3a h) (owW h) (xoW h) _ _ _ _ (tok4 3) (OWN m c) (XO m (xdev c))
    rfl rfl rfl rfl (read_send3a m c h) O
/-- A relay along x pays its debt and leaves the credit of its end. -/
theorem ht_send3b (h : Fin 4) (O : CellTallies nD τ sig Unit) :
    HT m K c iprop((At (p2bW h) c tok1 (P2 m c) ∗ Any (xpbW h) (xdev c) ∗ tk3b c h) ∗ Ow c (dR3b c h + O))
      (send3b c h) iprop(cr c (.s3b h) ∗ Ow c O) :=
  ht_send (xdev c) (.s3b h) (.r3b h) (p2bW h) (xpbW h) _ _ _ _ tok1 (P2 m c) (XP m (xdev c))
    rfl rfl rfl rfl (read_send3b m c h) O

/-- A wait for a chunk along z yields the chunk filled. -/
theorem ht_recv1 (h : Fin 4) (r : Fin 3) (O : CellTallies nD τ sig Unit) (hO : Above 2 O) :
    HT m K c iprop(Due c (.r1 h r) ∗ Ow c O) (recv1 h r) iprop((At (p1W h r) c fullShare (P1 m c) ∗ done c (.r1 h r)) ∗ Ow c O) :=
  ht_wait (.r1 h r) (rs1 h r) rfl (p1W h r) (p1W h r) _ _ rfl O hO
/-- A wait for a chunk along y yields the chunk filled. -/
theorem ht_recv2 (h : Fin 4) (r : Fin 3) (O : CellTallies nD τ sig Unit) (hO : Above 3 O) :
    HT m K c iprop(Due c (.r2 h r) ∗ Ow c O) (recv2 h r) iprop((At (p2W r h) c fullShare (P2 m c) ∗ done c (.r2 h r)) ∗ Ow c O) :=
  ht_wait (.r2 h r) (rs2 h r) rfl (p2W r h) (p2W r h) _ _ rfl O hO
/-- A wait for a chunk of the x-peer's sum yields the chunk filled. -/
theorem ht_recv3a (h : Fin 4) :
    HT m K c iprop(Due c (.r3a h) ∗ Ow c 0) (recv3a h) iprop((At (xoW h) c fullShare (XO m c) ∗ done c (.r3a h)) ∗ Ow c 0) :=
  ht_wait (.r3a h) (rs3a h) rfl (owW h) (xoW h) _ _ rfl 0 (above_zero _)
/-- A wait for a relayed chunk yields the chunk filled. -/
theorem ht_recv3b (h : Fin 4) :
    HT m K c iprop(Due c (.r3b h) ∗ Ow c 0) (recv3b h) iprop((At (xpbW h) c fullShare (XP m c) ∗ done c (.r3b h)) ∗ Ow c 0) :=
  ht_wait (.r3b h) (rs3b h) rfl (p2bW h) (xpbW h) _ _ rfl 0 (above_zero _)
/-- A wait for the end of a copy along z gives the source back. -/
theorem ht_sent1 (i : Fin 4 × Fin 3) :
    HT m K c iprop(Due c (.s1 i.1 i.2) ∗ Ow c 0) (sent1 c i.1 i.2) iprop((At (xlW c i.1 i.2) c fullShare (XL m c) ∗ done c (.s1 i.1 i.2)) ∗ Ow c 0) :=
  ht_wait (.s1 i.1 i.2) (ss1 i.1 i.2) rfl (p1W i.1 i.2.rev) (xlW c i.1 i.2) _ _ rfl 0 (above_zero _)
/-- A wait for the end of a copy along y gives the source's share back. -/
theorem ht_sent2 (h : Fin 4) (k : Fin 3) :
    HT m K c iprop(Due c (.s2 h k) ∗ Ow c 0) (sent2 h k) iprop((At (owW h) c (tok4 k.castSucc) (OWN m c) ∗ done c (.s2 h k)) ∗ Ow c 0) :=
  ht_wait (.s2 h k) (ss2 h k) rfl (p2W k.rev h) (owW h) _ _ rfl 0 (above_zero _)
/-- A wait for the end of a copy along x gives the source's share back. -/
theorem ht_sent3a (h : Fin 4) :
    HT m K c iprop(Due c (.s3a h) ∗ Ow c 0) (sent3a h) iprop((At (owW h) c (tok4 3) (OWN m c) ∗ done c (.s3a h)) ∗ Ow c 0) :=
  ht_wait (.s3a h) (ss3a h) rfl (xoW h) (owW h) _ _ rfl 0 (above_zero _)
/-- A wait for the end of a relay gives the source's share back. -/
theorem ht_sent3b (h : Fin 4) :
    HT m K c iprop(Due c (.s3b h) ∗ Ow c 0) (sent3b h) iprop((At (p2bW h) c tok1 (P2 m c) ∗ done c (.s3b h)) ∗ Ow c 0) :=
  ht_wait (.s3b h) (ss3b h) rfl (xpbW h) (p2bW h) _ _ rfl 0 (above_zero _)
/-- The wait for the first copy yields the stripe and gives the argument back. -/
theorem ht_waitIn (O : CellTallies nD τ sig Unit) (hO : Above 0 O) :
    HT m K c iprop(Due c .loc ∗ Ow c O) (waitIn c) iprop(((At xlM c fullShare (XL m c) ∗ At (stripeW c) c fullShare (XA m c)) ∗ done c .loc) ∗ Ow c O) :=
  ht_wait .loc locS rfl (stripeW c) xlM _ _ rfl O hO

/-- The second phase of chunk `h`: three receives, the sum, the copies along y and x. -/
theorem ht_phB (h : Fin 4) (O : CellTallies nD τ sig Unit) (hO : Above 2 O) :
    HT m K c
      iprop(((bigSep Finset.univ fun r : Fin 3 => Due c (.r1 h r)) ∗ At (xkW c h) c fullShare (XL m c) ∗ Any (owW h) c
          ∗ (bigSep Finset.univ fun k : Fin 3 => Any (p2W k.rev h) (ydev c k)) ∗ (bigSep Finset.univ fun k : Fin 3 => tk2 c h k)
          ∗ Any (xoW h) (xdev c) ∗ tk3a c h) ∗ Ow c (dB c h + O))
      (phB c h)
      iprop(((bigSep Finset.univ fun r : Fin 3 => At (p1W h r) c fullShare (P1 m c)) ∗ (bigSep Finset.univ fun r : Fin 3 => done c (.r1 h r))
          ∗ At (xkW c h) c fullShare (XL m c) ∗ At (owW h) c rest4 (OWN m c)
          ∗ (bigSep Finset.univ fun k : Fin 3 => cr c (.s2 h k)) ∗ cr c (.s3a h)) ∗ Ow c O) := by
  have h1 := HT.loop0 (m := m) (K := K) (c := c) ks ks_univ ks_nodup _ _ (recv1 (F := F) h) _ (fun r => ht_recv1 h r (dB c h + O) (above_add (above_dB c h) hO))
  have h2 := HT.loop (m := m) (K := K) (c := c) ks ks_univ ks_nodup _ _ (send2 (F := F) c h) (dR2 c h) 2 (above_dR2 c h)
    (fun k O _ => ht_send2 h k O) (dR3a c h + O) (above_add (above_mono (above_dR3a c h) (by decide)) hO)
  rw [bigSep_sep'] at h1
  rw [bigSep_sep', bigSep_sep', ← add_assoc] at h2
  unfold HT phB
  iintro ⟨#HC, ⟨Hd, Hx, Ho, Hy, Ht2, Hxo, Ht3⟩, HO⟩
  iapply (run_step h1) $$ [Hd HO]
  · isplitr; · iexact HC
    isplitl [Hd]; · iexact Hd
    iexact HO
  iintro ⟨⟨Hp, Hz⟩, HO⟩
  iapply (run_step (ht_addUp h)) $$ [Hx Hp Ho]
  · isplitr; · iexact HC
    isplitl [Hx]; · iexact Hx
    isplitl [Hp]; · iexact Hp
    iexact Ho
  iintro ⟨Hx, Hp, Ho⟩
  ihave Ho := (Entails.of_eq (own_shares h)) $$ Ho
  icases Ho with ⟨Hr, Hk, H3⟩
  iapply (run_step h2) $$ [Hk Hy Ht2 HO]
  · isplitr; · iexact HC
    isplitl [Hk Hy Ht2]
    · isplitl [Hk]; · iexact Hk
      isplitl [Hy]; · iexact Hy
      iexact Ht2
    iexact HO
  iintro ⟨Hc2, HO⟩
  iapply (run_step (ht_send3a h O)) $$ [H3 Hxo Ht3 HO]
  · isplitr; · iexact HC
    isplitl [H3 Hxo Ht3]
    · isplitl [H3]; · iexact H3
      isplitl [Hxo]; · iexact Hxo
      iexact Ht3
    iexact HO
  iintro ⟨Hc3, HO⟩
  iapply run_nil
  isplitr [HO]
  · isplitl [Hp]; · iexact Hp
    isplitl [Hz]; · iexact Hz
    isplitl [Hx]; · iexact Hx
    isplitl [Hr]; · iexact Hr
    isplitl [Hc2]; · iexact Hc2
    iexact Hc3
  iexact HO

/-! ## Third phase, chunk `h` -/

/-- The output's stripes that come from the y-peers, and from the x-peer's. -/
def yi : Fin 3 → Fin 8 | 0 => 1 | 1 => 2 | 2 => 3
def xi : Fin 3 → Fin 8 | 0 => 5 | 1 => 6 | 2 => 7
omit [FloatOps F] in
/-- A family over the eight stripes, by where they come from. -/
theorem eight (Φ : Fin 8 → sProp (MM F)) : bigSep Finset.univ Φ
    = iprop((Φ 0 ∗ (bigSep Finset.univ fun r => Φ (yi r))) ∗ Φ 4 ∗ (bigSep Finset.univ fun r => Φ (xi r))) := by
  rw [three, three, bigSep_univ_eq_bigSepL [0, 1, 2, 3, 4, 5, 6, 7] (by decide) (by decide)]
  refine BI.equiv_iff.mp ⟨?_, ?_⟩
  · show iprop(Φ 0 ∗ Φ 1 ∗ Φ 2 ∗ Φ 3 ∗ Φ 4 ∗ Φ 5 ∗ Φ 6 ∗ Φ 7) ⊢ iprop((Φ 0 ∗ Φ 1 ∗ Φ 2 ∗ Φ 3) ∗ Φ 4 ∗ Φ 5 ∗ Φ 6 ∗ Φ 7)
    iintro ⟨A, B, C, D, E⟩
    isplitl [A B C D]
    · isplitl [A]; · iexact A
      isplitl [B]; · iexact B
      isplitl [C]; · iexact C
      iexact D
    iexact E
  · show iprop((Φ 0 ∗ Φ 1 ∗ Φ 2 ∗ Φ 3) ∗ Φ 4 ∗ Φ 5 ∗ Φ 6 ∗ Φ 7) ⊢ iprop(Φ 0 ∗ Φ 1 ∗ Φ 2 ∗ Φ 3 ∗ Φ 4 ∗ Φ 5 ∗ Φ 6 ∗ Φ 7)
    iintro ⟨⟨A, B, C, D⟩, E⟩
    isplitl [A]; · iexact A
    isplitl [B]; · iexact B
    isplitl [C]; · iexact C
    isplitl [D]; · iexact D
    iexact E

/-- A received sum is stored at its rows of the output. -/
theorem ht_putY (h : Fin 4) (r : Fin 3) :
    HT m K c iprop(Any (oW c (yi r) h) c ∗ At (p2bW h) c rest1 (P2 m c)) (putSlot p2M (outRow c r) (outRow_le c r) h r)
      iprop(At (oW c (yi r) h) c fullShare (OUT m c) ∗ At (p2bW h) c rest1 (P2 m c)) := by
  match r with
  | 0 => exact (ht_putSlot p2M _ (rows_le c 1) h 0 rest1 (P2 m c) (OUT m c) (read_putSlot m c 1 (rows_le c 1) h 0 c rfl) (p2_access_sub 0 h)).conseq sep_comm.1 sep_comm.1
  | 1 => exact (ht_putSlot p2M _ (rows_le c 2) h 1 rest1 (P2 m c) (OUT m c) (read_putSlot m c 2 (rows_le c 2) h 1 c rfl) (p2_access_sub 1 h)).conseq sep_comm.1 sep_comm.1
  | 2 => exact (ht_putSlot p2M _ (rows_le c 3) h 2 rest1 (P2 m c) (OUT m c) (read_putSlot m c 3 (rows_le c 3) h 2 c rfl) (p2_access_sub 2 h)).conseq sep_comm.1 sep_comm.1
/-- A relayed sum is stored at its rows of the output. -/
theorem ht_putX (h : Fin 4) (r : Fin 3) :
    HT m K c iprop(Any (oW c (xi r) h) c ∗ At (xpbW h) c fullShare (XP m c)) (putSlot xpM (xoutRow c r) (xoutRow_le c r) h r)
      iprop(At (oW c (xi r) h) c fullShare (OUT m c) ∗ At (xpbW h) c fullShare (XP m c)) := by
  match r with
  | 0 => exact (ht_putSlot xpM _ (rows_le c 5) h 0 fullShare (XP m c) (OUT m c) (read_putSlotX m c 5 (rows_le c 5) h 0 rfl) (xp_access_sub 0 h)).conseq sep_comm.1 sep_comm.1
  | 1 => exact (ht_putSlot xpM _ (rows_le c 6) h 1 fullShare (XP m c) (OUT m c) (read_putSlotX m c 6 (rows_le c 6) h 1 rfl) (xp_access_sub 1 h)).conseq sep_comm.1 sep_comm.1
  | 2 => exact (ht_putSlot xpM _ (rows_le c 7) h 2 fullShare (XP m c) (OUT m c) (read_putSlotX m c 7 (rows_le c 7) h 2 rfl) (xp_access_sub 2 h)).conseq sep_comm.1 sep_comm.1

/-- The third phase of chunk `h`: three receives, the relay, the stores of this half. -/
theorem ht_phC (h : Fin 4) (O : CellTallies nD τ sig Unit) (hO : Above 3 O) :
    HT m K c
      iprop(((bigSep Finset.univ fun r : Fin 3 => Due c (.r2 h r)) ∗ Any (xpbW h) (xdev c) ∗ tk3b c h ∗ At (owW h) c rest4 (OWN m c)
          ∗ Any (oW c 0 h) c ∗ (bigSep Finset.univ fun r : Fin 3 => Any (oW c (yi r) h) c)) ∗ Ow c (dR3b c h + O))
      (phC c h)
      iprop(((bigSep Finset.univ fun r : Fin 3 => done c (.r2 h r)) ∗ cr c (.s3b h) ∗ At (p2bW h) c rest1 (P2 m c) ∗ At (owW h) c rest4 (OWN m c)
          ∗ At (oW c 0 h) c fullShare (OUT m c) ∗ (bigSep Finset.univ fun r : Fin 3 => At (oW c (yi r) h) c fullShare (OUT m c))) ∗ Ow c O) := by
  have h1 := HT.loop0 (m := m) (K := K) (c := c) ks ks_univ ks_nodup _ _ (recv2 (F := F) h) _ (fun r => ht_recv2 h r (dR3b c h + O) (above_add (above_dR3b c h) hO))
  have h2 := HT.loop0 (m := m) (K := K) (c := c) ks ks_univ ks_nodup _ _ (fun r => putSlot (F := F) p2M (outRow c r) (outRow_le c r) h r) _ (ht_putY h)
  have h3 : HT m K c _ (put owM (k0_off4 c 0) (row0_le c) h) _ := ht_put owM _ (rows_le c 0) h rest4 (OWN m c) (OUT m c) (read_put m c 0 (rows_le c 0) h _ rfl)
  rw [bigSep_sep'] at h1
  unfold HT phC
  iintro ⟨#HC, ⟨Hd, Hxp, Ht3, Ho, Ho0, Hoy⟩, HO⟩
  iapply (run_step h1) $$ [Hd HO]
  · isplitr; · iexact HC
    isplitl [Hd]; · iexact Hd
    iexact HO
  iintro ⟨⟨Hp, Hz⟩, HO⟩
  ihave Hp := (Entails.of_eq (split_slots c fullShare h (P2 m c)).symm) $$ Hp
  ihave Hp := (Entails.of_eq (p2_shares h)) $$ Hp
  icases Hp with ⟨Hr, Hk⟩
  iapply (run_step (ht_send3b h O)) $$ [Hk Hxp Ht3 HO]
  · isplitr; · iexact HC
    isplitl [Hk Hxp Ht3]
    · isplitl [Hk]; · iexact Hk
      isplitl [Hxp]; · iexact Hxp
      iexact Ht3
    iexact HO
  iintro ⟨Hc3, HO⟩
  iapply (run_step h3) $$ [Ho Ho0]
  · isplitr; · iexact HC
    isplitl [Ho]; · iexact Ho
    iexact Ho0
  iintro ⟨Ho, Ho0⟩
  iapply (run_step h2) $$ [Hoy Hr]
  · isplitr; · iexact HC
    isplitl [Hoy]; · iexact Hoy
    iexact Hr
  iintro ⟨Hoy, Hr⟩
  iapply run_nil
  isplitr [HO]
  · isplitl [Hz]; · iexact Hz
    isplitl [Hc3]; · iexact Hc3
    isplitl [Hr]; · iexact Hr
    isplitl [Ho]; · iexact Ho
    isplitl [Ho0]; · iexact Ho0
    iexact Hoy
  iexact HO

/-! ## The x-peer's half, and the sends' ends -/

/-- The last phase of chunk `h`: the x-peer's copies are received and stored in the other half. -/
theorem ht_phD (h : Fin 4) :
    HT m K c
      iprop((Due c (.r3a h) ∗ Due c (.r3b h) ∗ Any (oW c 4 h) c ∗ (bigSep Finset.univ fun r : Fin 3 => Any (oW c (xi r) h) c)) ∗ Ow c 0)
      (phD c h)
      iprop((done c (.r3a h) ∗ done c (.r3b h) ∗ At (xoW h) c fullShare (XO m c) ∗ At (xpbW h) c fullShare (XP m c)
          ∗ At (oW c 4 h) c fullShare (OUT m c) ∗ (bigSep Finset.univ fun r : Fin 3 => At (oW c (xi r) h) c fullShare (OUT m c))) ∗ Ow c 0) := by
  have h2 := HT.loop0 (m := m) (K := K) (c := c) ks ks_univ ks_nodup _ _ (fun r => putSlot (F := F) xpM (xoutRow c r) (xoutRow_le c r) h r) _ (ht_putX h)
  have h3 : HT m K c _ (put xoM (k0_off12 c 0) (xrow0_le c) h) _ := ht_put xoM _ (rows_le c 4) h fullShare (XO m c) (OUT m c) (read_putX m c 4 (rows_le c 4) h _ rfl)
  unfold HT phD
  iintro ⟨#HC, ⟨Hda, Hdb, Ho4, Hox⟩, HO⟩
  iapply (run_step (ht_recv3a h)) $$ [Hda HO]
  · isplitr; · iexact HC
    isplitl [Hda]; · iexact Hda
    iexact HO
  iintro ⟨⟨Ha, Hza⟩, HO⟩
  iapply (run_step (ht_recv3b h)) $$ [Hdb HO]
  · isplitr; · iexact HC
    isplitl [Hdb]; · iexact Hdb
    iexact HO
  iintro ⟨⟨Hb, Hzb⟩, HO⟩
  iapply (run_step h3) $$ [Ha Ho4]
  · isplitr; · iexact HC
    isplitl [Ha]; · iexact Ha
    iexact Ho4
  iintro ⟨Ha, Ho4⟩
  iapply (run_step h2) $$ [Hox Hb]
  · isplitr; · iexact HC
    isplitl [Hox]; · iexact Hox
    iexact Hb
  iintro ⟨Hox, Hb⟩
  iapply run_nil
  isplitr [HO]
  · isplitl [Hza]; · iexact Hza
    isplitl [Hzb]; · iexact Hzb
    isplitl [Ha]; · iexact Ha
    isplitl [Hb]; · iexact Hb
    isplitl [Ho4]; · iexact Ho4
    iexact Hox
  iexact HO

/-- The waits for the ends of chunk `h`'s copies along y and x. -/
theorem ht_phE (h : Fin 4) :
    HT m K c iprop(((bigSep Finset.univ fun k : Fin 3 => Due c (.s2 h k)) ∗ Due c (.s3a h)) ∗ Ow c 0) (phE h)
      iprop(((bigSep Finset.univ fun k : Fin 3 => At (owW h) c (tok4 k.castSucc) (OWN m c)) ∗ At (owW h) c (tok4 3) (OWN m c)
          ∗ (bigSep Finset.univ fun k : Fin 3 => done c (.s2 h k)) ∗ done c (.s3a h)) ∗ Ow c 0) := by
  have h1 := HT.loop0 (m := m) (K := K) (c := c) ks ks_univ ks_nodup _ _ (sent2 (F := F) h) _ (ht_sent2 h)
  rw [bigSep_sep'] at h1
  unfold HT phE
  iintro ⟨#HC, ⟨Hd, Hda⟩, HO⟩
  iapply (run_step h1) $$ [Hd HO]
  · isplitr; · iexact HC
    isplitl [Hd]; · iexact Hd
    iexact HO
  iintro ⟨⟨H, Hz⟩, HO⟩
  iapply (run_step (ht_sent3a h)) $$ [Hda HO]
  · isplitr; · iexact HC
    isplitl [Hda]; · iexact Hda
    iexact HO
  iintro ⟨⟨Ha, Hza⟩, HO⟩
  iapply run_nil
  isplitr [HO]
  · isplitl [H]; · iexact H
    isplitl [Ha]; · iexact Ha
    isplitl [Hz]; · iexact Hz
    iexact Hza
  iexact HO

end Cert.KernelIdeal.RS

end
-- ==== Proof.Whole.lean ====
/- The whole program of one device: from what the launch deals it to what it leaves. -/
module

public import proofs.«01_k».proof.Proof.Body

@[expose] public section

set_option maxRecDepth 100000

noncomputable section

namespace Cert.KernelIdeal.RS

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]
variable (m : (ℓ : Loc nD τ sig) → Buf (Elt F) ℓ) (K : Dev nD × Option J → ℕ) (c : Dev nD)

/-! ## Families over the copies' cells, and over the output's windows -/

omit [FloatOps F] in
/-- A family over the copies' cells, by the kind of copy. -/
theorem over_J (Φ : J → sProp (MM F)) : bigSep Finset.univ Φ = iprop(Φ .loc
    ∗ (bigSep Finset.univ fun i : Fin 4 × Fin 3 => Φ (.s1 i.1 i.2))
    ∗ (bigSep Finset.univ fun h : Fin 4 => bigSep Finset.univ fun r : Fin 3 => Φ (.r1 h r))
    ∗ (bigSep Finset.univ fun h : Fin 4 => bigSep Finset.univ fun k : Fin 3 => Φ (.s2 h k))
    ∗ (bigSep Finset.univ fun h : Fin 4 => bigSep Finset.univ fun r : Fin 3 => Φ (.r2 h r))
    ∗ (bigSep Finset.univ fun h : Fin 4 => Φ (.s3a h)) ∗ (bigSep Finset.univ fun h : Fin 4 => Φ (.r3a h))
    ∗ (bigSep Finset.univ fun h : Fin 4 => Φ (.s3b h)) ∗ (bigSep Finset.univ fun h : Fin 4 => Φ (.r3b h))) := by
  rw [bigSep_univ_equiv jEquiv.symm, bigSep_univ_sum, bigSep_univ_sum, bigSep_univ_sum, bigSep_univ_sum, bigSep_univ_sum, bigSep_univ_sum,
    bigSep_univ_sum, bigSep_univ_sum, bigSep_univ_of_subsingleton (), ← bigSep_univ_prod (fun i : Fin 4 × Fin 3 => Φ (.r1 i.1 i.2)),
    ← bigSep_univ_prod (fun i : Fin 4 × Fin 3 => Φ (.s2 i.1 i.2)), ← bigSep_univ_prod (fun i : Fin 4 × Fin 3 => Φ (.r2 i.1 i.2))]
  rfl

omit [FloatOps F] in
/-- A family over the output's chunks, by where the stripes come from. -/
theorem over_o (Φ : Fin 8 → Fin 4 → sProp (MM F)) : (bigSep Finset.univ fun i : Fin 8 × Fin 4 => Φ i.1 i.2) = iprop(
    ((bigSep Finset.univ fun h => Φ 0 h) ∗ (bigSep Finset.univ fun h => bigSep Finset.univ fun r => Φ (yi r) h))
    ∗ (bigSep Finset.univ fun h => Φ 4 h) ∗ (bigSep Finset.univ fun h => bigSep Finset.univ fun r => Φ (xi r) h)) := by
  rw [bigSep_univ_prod (fun i : Fin 8 × Fin 4 => Φ i.1 i.2), bigSep_univ_comm (fun (i : Fin 8) (h : Fin 4) => Φ i h),
    bigSep_congr (s := Finset.univ) (fun (h : Fin 4) _ => eight (fun i => Φ i h)), bigSep_sep', bigSep_sep', bigSep_sep']

omit [FloatOps F] in
/-- The output at any contents is its chunks at any contents. -/
theorem any_o : (Any oM c : sProp (MM F)) ⊢ iprop(
    ((bigSep Finset.univ fun h => Any (oW c 0 h) c) ∗ (bigSep Finset.univ fun h => bigSep Finset.univ fun r => Any (oW c (yi r) h) c))
    ∗ (bigSep Finset.univ fun h => Any (oW c 4 h) c) ∗ (bigSep Finset.univ fun h => bigSep Finset.univ fun r => Any (oW c (xi r) h) c)) := by
  rw [← over_o (fun i h => (Any (oW c i h) c : sProp (MM F)))]
  refine exists_elim fun f => ?_
  exact (Entails.of_eq (split_o c fullShare f)).trans (bigSep_mono fun i _ => any_of (oW c i.1 i.2) c f)
/-- The own sum's buffer at any contents is its chunks at any contents. -/
theorem any_ow : (Any owM c : sProp (MM F)) ⊢ bigSep Finset.univ fun h => Any (owW h) c := by
  refine exists_elim fun f => ?_
  exact (Entails.of_eq (split_ow c fullShare f)).trans (bigSep_mono fun i _ => any_of (owW i) c f)

/-- The sums' chunks rejoined from their shares. -/
theorem join_ow : (At owM c fullShare (OWN m c) : sProp (MM F)) = iprop((bigSep Finset.univ fun h => At (owW h) c rest4 (OWN m c))
    ∗ (bigSep Finset.univ fun h => bigSep Finset.univ fun k : Fin 3 => At (owW h) c (tok4 k.castSucc) (OWN m c))
    ∗ (bigSep Finset.univ fun h => At (owW h) c (tok4 3) (OWN m c))) := by
  rw [split_ow, bigSep_congr (s := Finset.univ) (fun (h : Fin 4) _ => own_shares (m := m) (c := c) h), bigSep_sep', bigSep_sep']
/-- The y-peers' buffer is its chunks in their two shares. -/
theorem join_p2 : (At p2M c fullShare (P2 m c) : sProp (MM F)) = iprop((bigSep Finset.univ fun h => At (p2bW h) c rest1 (P2 m c))
    ∗ (bigSep Finset.univ fun h => At (p2bW h) c tok1 (P2 m c))) := by
  rw [split_p2b, bigSep_congr (s := Finset.univ) (fun (h : Fin 4) _ => p2_shares (m := m) (c := c) h), bigSep_sep']

/-! ## Start and end -/

/-- Everything the launch deals device `c`, bar what it owes. -/
def Pre : sProp (MM F) := iprop(
  At (stripeW c) c fullShare (XA m c) ∗ Any xlM c ∗ Any owM c ∗ (Any p1M c ∗ Any p2M c ∗ Any xoM c ∗ Any xpM c) ∗ Any oM c
  ∗ (dutyTok ER (cell c .loc) 0 0 ∗ (bigSep Finset.univ fun i : Fin 7 => dutyTok ER (barCell (peer c i)) 0 i)
      ∗ (bigSep Finset.univ fun i : Fin 4 × Fin 3 => tk1 c i) ∗ (bigSep Finset.univ fun h : Fin 4 => bigSep Finset.univ fun k : Fin 3 => tk2 c h k)
      ∗ (bigSep Finset.univ fun h : Fin 4 => tk3a c h) ∗ (bigSep Finset.univ fun h : Fin 4 => tk3b c h))
  ∗ atPos ER (barCell c) 0 ∅ 0 ∗ (bigSep Finset.univ fun j : J => ps c j)
  ∗ cred (tallyAt (barCell c) () 7)
  ∗ (bigSep Finset.univ fun h : Fin 4 => bigSep Finset.univ fun r : Fin 3 => cr c (.r1 h r))
  ∗ (bigSep Finset.univ fun h : Fin 4 => bigSep Finset.univ fun r : Fin 3 => cr c (.r2 h r))
  ∗ (bigSep Finset.univ fun h : Fin 4 => cr c (.r3a h)) ∗ (bigSep Finset.univ fun h : Fin 4 => cr c (.r3b h)))
/-- What it has at the end: every buffer whole, every semaphore's counter at zero. -/
def Post : sProp (MM F) := iprop(
  At (stripeW c) c fullShare (XA m c) ∗ Any xlM c ∗ Any owM c ∗ (Any p1M c ∗ Any p2M c ∗ Any xoM c ∗ Any xpM c) ∗ At oM c fullShare (OUT m c)
  ∗ semVal (barCell c) 0 ∗ (bigSep Finset.univ fun j : J => done c j))

/-- Credits and positions of a family are its dues. -/
theorem dues {I : Type} [DecidableEq I] (S : Finset I) (j : I → J) : iprop((bigSep S fun i => cr c (j i)) ∗ (bigSep S fun i => ps c (j i)) : sProp (MM F)) = bigSep S fun i => Due c (j i) := by
  rw [← bigSep_sep']; rfl
/-- The same of a family over chunks and peers. -/
theorem dues2 (j : Fin 4 → Fin 3 → J) : iprop((bigSep Finset.univ fun h => bigSep Finset.univ fun k => cr c (j h k)) ∗ (bigSep Finset.univ fun h => bigSep Finset.univ fun k => ps c (j h k)) : sProp (MM F))
    = bigSep Finset.univ fun h => bigSep Finset.univ fun k => Due c (j h k) := by
  rw [← bigSep_sep']; exact bigSep_congr fun h _ => dues c _ _

set_option maxHeartbeats 1000000 in
/-- The whole body: from its buffers and debts to the filled buffers and no debt. -/
theorem ht_prog : HT m K c iprop(Pre m c ∗ Ow c (O₀ c)) (prog c) iprop(Post m c ∗ Ow c 0) := by
  have hSig := HT.loop (m := m) (K := K) (c := c) (List.finRange 7) (by decide) (by decide) _ _ (fun i => sig1 (F := F) (peer c i)) (dBar c) 0 (above_dBar c)
    (fun i O _ => ht_signal i O) (O1 c) (above_mono (above_O1 c) (by decide))
  have hS1 := HT.loop (m := m) (K := K) (c := c) hks hks_univ hks_nodup _ _ (fun i => send1 (F := F) c i.1 i.2) (dR1 c) 1 (above_dR1 c)
    (fun i O _ => ht_send1 i O) (O2 c) (above_mono (above_O2 c) (by decide))
  have hB := HT.loop (m := m) (K := K) (c := c) hs hs_univ hs_nodup _ _ (phB (F := F) c) (dB c) 2 (above_dB c) (fun h O hO => ht_phB h O hO) (O3 c) (above_mono (above_O3 c) (by decide))
  have hC := HT.loop (m := m) (K := K) (c := c) hs hs_univ hs_nodup _ _ (phC (F := F) c) (dR3b c) 3 (above_dR3b c) (fun h O hO => ht_phC h O hO) 0 (above_zero 3)
  have hD := HT.loop0 (m := m) (K := K) (c := c) hs hs_univ hs_nodup _ _ (phD (F := F) c) _ ht_phD
  have hW1 := HT.loop0 (m := m) (K := K) (c := c) hks hks_univ hks_nodup _ _ (fun i => sent1 (F := F) c i.1 i.2) _ ht_sent1
  have hE := HT.loop0 (m := m) (K := K) (c := c) hs hs_univ hs_nodup _ _ (phE (F := F)) _ ht_phE
  have hW3 := HT.loop0 (m := m) (K := K) (c := c) hs hs_univ hs_nodup _ _ (sent3b (F := F)) _ ht_sent3b
  simp only [bigSep_sep'] at hSig hS1 hB hC hD hW1 hE hW3
  unfold HT prog Pre
  rw [over_J]
  iintro ⟨#HC, ⟨Hst, Hxl, How, Hrecv, Ho, ⟨Tl, Tb, T1, T2, T3a, T3b⟩, Pb, ⟨Pl, Ps1, Pr1, Ps2, Pr2, Ps3a, Pr3a, Ps3b, Pr3b⟩, Cb, C1, C2, C3a, C3b⟩, HO⟩
  ihave Dr1 := (Entails.of_eq (dues2 c .r1)) $$ [C1 Pr1]
  · isplitl [C1] <;> iassumption
  ihave Dr2 := (Entails.of_eq (dues2 c .r2)) $$ [C2 Pr2]
  · isplitl [C2] <;> iassumption
  ihave Dr3a := (Entails.of_eq (dues c Finset.univ .r3a)) $$ [C3a Pr3a]
  · isplitl [C3a] <;> iassumption
  ihave Dr3b := (Entails.of_eq (dues c Finset.univ .r3b)) $$ [C3b Pr3b]
  · isplitl [C3b] <;> iassumption
  -- the stripe's copy starts
  iapply (run_step ht_copyIn) $$ [Hst Hxl Tl]
  · isplitr; · iexact HC
    isplitl [Hst]; · iexact Hst
    isplitl [Hxl] <;> iassumption
  iintro Cl
  -- the barrier's signals
  ihave Hg := (give_all c) $$ Hrecv
  iapply (run_step hSig) $$ [Hg Tb HO]
  · isplitr; · iexact HC
    isplitl [Hg Tb]
    · isplitl [Hg] <;> iassumption
    iexact HO
  iintro ⟨-, HO⟩
  iapply (run_step (ht_barrier (O1 c) (above_O1 c))) $$ [Cb Pb HO]
  · isplitr; · iexact HC
    isplitl [Cb Pb]
    · isplitl [Cb] <;> iassumption
    iexact HO
  iintro ⟨⟨Hg, Zb⟩, HO⟩
  ihave Hg := (take_all c) $$ Hg
  icases Hg with ⟨Y1, Y2, Hx⟩
  ihave Hx := (Entails.of_eq (bigSep_sep' _ _ _)) $$ Hx
  icases Hx with ⟨Y3a, Y3b⟩
  -- the stripe is there
  iapply (run_step (ht_waitIn (O1 c) (above_mono (above_O1 c) (by decide)))) $$ [Cl Pl HO]
  · isplitr; · iexact HC
    isplitl [Cl Pl]
    · unfold Due
      isplitl [Cl]; · iexact Cl
      iapply (show (ps c .loc : sProp (MM F)) ⊢ atPos ER (cell c .loc) 0 ∅ 0 from BI.Entails.refl _); iexact Pl
    iexact HO
  iintro ⟨⟨⟨Hxl, Hst⟩, Zl⟩, HO⟩
  ihave Hxl := (Entails.of_eq (split_xl c fullShare (XL m c))) $$ Hxl
  icases Hxl with ⟨Hxk, Hxl⟩
  -- the first phase's sends
  iapply (run_step hS1) $$ [Hxl Y1 T1 HO]
  · isplitr; · iexact HC
    isplitl [Hxl Y1 T1]
    · isplitl [Hxl]; · iexact Hxl
      isplitl [Y1] <;> iassumption
    iexact HO
  iintro ⟨Cs1, HO⟩
  ihave How := (any_ow c) $$ How
  -- the second phase
  iapply (run_step hB) $$ [Dr1 Hxk How Y2 T2 Y3a T3a HO]
  · isplitr; · iexact HC
    isplitr [HO]
    · isplitl [Dr1]; · iexact Dr1
      isplitl [Hxk]; · iexact Hxk
      isplitl [How]; · iexact How
      isplitl [Y2]; · iexact Y2
      isplitl [T2]; · iexact T2
      isplitl [Y3a] <;> iassumption
    iexact HO
  iintro ⟨⟨Hp1, Zr1, Hxk, Hr4, Cs2, Cs3a⟩, HO⟩
  ihave Ho := (any_o c) $$ Ho
  icases Ho with ⟨⟨Ho0, Hoy⟩, Ho4, Hox⟩
  -- the third phase
  iapply (run_step hC) $$ [Dr2 Y3b T3b Hr4 Ho0 Hoy HO]
  · isplitr; · iexact HC
    isplitr [HO]
    · isplitl [Dr2]; · iexact Dr2
      isplitl [Y3b]; · iexact Y3b
      isplitl [T3b]; · iexact T3b
      isplitl [Hr4]; · iexact Hr4
      isplitl [Ho0] <;> iassumption
    iexact HO
  iintro ⟨⟨Zr2, Cs3b, Hr1, Hr4, Ho0, Hoy⟩, HO⟩
  -- the x-peer's half
  iapply (run_step hD) $$ [Dr3a Dr3b Ho4 Hox HO]
  · isplitr; · iexact HC
    isplitr [HO]
    · isplitl [Dr3a]; · iexact Dr3a
      isplitl [Dr3b]; · iexact Dr3b
      isplitl [Ho4] <;> iassumption
    iexact HO
  iintro ⟨⟨Zr3a, Zr3b, Hxo, Hxp, Ho4, Hox⟩, HO⟩
  -- the sends end
  iapply (run_step hW1) $$ [Cs1 Ps1 HO]
  · isplitr; · iexact HC
    isplitr [HO]
    · iapply (Entails.of_eq (dues c Finset.univ fun i : Fin 4 × Fin 3 => .s1 i.1 i.2))
      isplitl [Cs1] <;> iassumption
    iexact HO
  iintro ⟨⟨Hxl, Zs1⟩, HO⟩
  iapply (run_step hE) $$ [Cs2 Ps2 Cs3a Ps3a HO]
  · isplitr; · iexact HC
    isplitr [HO]
    · isplitl [Cs2 Ps2]
      · iapply (Entails.of_eq (dues2 c .s2)); isplitl [Cs2] <;> iassumption
      · iapply (Entails.of_eq (dues c Finset.univ .s3a)); isplitl [Cs3a] <;> iassumption
    iexact HO
  iintro ⟨⟨Hk4, H34, Zs2, Zs3a⟩, HO⟩
  iapply (run_step hW3) $$ [Cs3b Ps3b HO]
  · isplitr; · iexact HC
    isplitr [HO]
    · iapply (Entails.of_eq (dues c Finset.univ .s3b)); isplitl [Cs3b] <;> iassumption
    iexact HO
  iintro ⟨⟨Hk1, Zs3b⟩, HO⟩
  iapply run_nil
  isplitr [HO]
  · unfold Post
    isplitl [Hst]; · iexact Hst
    isplitl [Hxk Hxl]
    · iapply (any_of xlM c (XL m c)); iapply (Entails.of_eq (split_xl c fullShare (XL m c)).symm)
      isplitl [Hxk] <;> iassumption
    isplitl [Hr4 Hk4 H34]
    · iapply (any_of owM c (OWN m c)); iapply (Entails.of_eq (join_ow m c).symm)
      isplitl [Hr4]; · iexact Hr4
      isplitl [Hk4] <;> iassumption
    isplitl [Hp1 Hr1 Hk1 Hxo Hxp]
    · isplitl [Hp1]
      · iapply (any_of p1M c (P1 m c))
        iapply (Entails.of_eq ((split_p1 c fullShare (P1 m c)).trans (bigSep_univ_prod _)).symm); iexact Hp1
      isplitl [Hr1 Hk1]
      · iapply (any_of p2M c (P2 m c)); iapply (Entails.of_eq (join_p2 m c).symm)
        isplitl [Hr1] <;> iassumption
      isplitl [Hxo]
      · iapply (any_of xoM c (XO m c)); iapply (Entails.of_eq (split_xo c fullShare (XO m c)).symm); iexact Hxo
      iapply (any_of xpM c (XP m c)); iapply (Entails.of_eq (split_xp c fullShare (XP m c)).symm); iexact Hxp
    isplitl [Ho0 Hoy Ho4 Hox]
    · iapply (Entails.of_eq ((split_o c fullShare (OUT m c)).trans (over_o (fun i h => At (oW c i h) c fullShare (OUT m c)))).symm)
      isplitl [Ho0 Hoy]
      · isplitl [Ho0] <;> iassumption
      isplitl [Ho4] <;> iassumption
    isplitl [Zb]; · iexact Zb
    iapply (Entails.of_eq (over_J (fun j => done c j)).symm)
    isplitl [Zl]; · iexact Zl
    isplitl [Zs1]; · iexact Zs1
    isplitl [Zr1]; · iexact Zr1
    isplitl [Zs2]; · iexact Zs2
    isplitl [Zr2]; · iexact Zr2
    isplitl [Zs3a]; · iexact Zs3a
    isplitl [Zr3a]; · iexact Zr3a
    isplitl [Zs3b]; · iexact Zs3b
    iexact Zr3b
  iexact HO

end Cert.KernelIdeal.RS

end
-- ==== Proof.BodyEq.lean ====
/- The printed body and the short program of Steps.lean are the same program. -/
module

public import proofs.«01_k».proof.Proof.Steps

@[expose] public section

noncomputable section

namespace Cert.KernelIdeal.RS

open Idealize.ShloMosaic Idealize.ShloMosaic.TcCoe Idealize.SL.Sem
open Cert.KernelIdeal Cert.KernelIdeal.Gen

variable {F : FTy → Type} [FloatOps F]

set_option maxRecDepth 65536 in
set_option maxHeartbeats 4000000 in
/-- The printed body is the short program, by definitional unfolding. -/
theorem body_eq : bodyAt0 (F := F) t0_0 = Prog.lift .deviceId >>= fun c => prog (F := F) c := rfl

end Cert.KernelIdeal.RS

end
-- ==== Proof.Launch.lean ====
/- The launch: what every device gets, and the run of @main on all of them. -/
module

public import proofs.«01_k».proof.Proof.Whole
public import proofs.«01_k».proof.Proof.BodyEq
public import Idealize.ShloMosaic.Lib.Pipeline.CollectiveSegs

@[expose] public section

set_option maxRecDepth 100000

noncomputable section

namespace Cert.KernelIdeal.RS

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The pipeline's data -/

/-- What every device knows of the cells, the levels apart. -/
def Records (K : Dev nD × Option J → ℕ) : sProp (MM F) :=
  iprop((bigSep Finset.univ fun x : Dev nD × Option J => cellInv ER (sched m) (K x) (kcell x))
    ∗ (bigSep Finset.univ fun x : Dev nD × Option J => reached ER (kcell x) 0))
instance records_persistent (K : Dev nD × Option J → ℕ) : BI.Persistent (Records m K) := by unfold Records; infer_instance

/-- The tokens of the duties device `c` pays. -/
def PayToks (c : Dev nD) : sProp (MM F) :=
  iprop(dutyTok ER (cell c .loc) 0 0 ∗ (bigSep Finset.univ fun i : Fin 7 => dutyTok ER (barCell (peer c i)) 0 i)
    ∗ (bigSep Finset.univ fun i : Fin 4 × Fin 3 => tk1 c i) ∗ (bigSep Finset.univ fun h : Fin 4 => bigSep Finset.univ fun k : Fin 3 => tk2 c h k)
    ∗ (bigSep Finset.univ fun h : Fin 4 => tk3a c h) ∗ (bigSep Finset.univ fun h : Fin 4 => tk3b c h))
/-- Its positions at its own cells. -/
def Poss (c : Dev nD) : sProp (MM F) := iprop(atPos ER (barCell c) 0 ∅ 0 ∗ (bigSep Finset.univ fun j : J => ps c j))
/-- The units the others owe its cells. -/
def Creds (c : Dev nD) : sProp (MM F) :=
  iprop(cred (tallyAt (barCell c) () 7)
    ∗ (bigSep Finset.univ fun h : Fin 4 => bigSep Finset.univ fun r : Fin 3 => cr c (.r1 h r))
    ∗ (bigSep Finset.univ fun h : Fin 4 => bigSep Finset.univ fun r : Fin 3 => cr c (.r2 h r))
    ∗ (bigSep Finset.univ fun h : Fin 4 => cr c (.r3a h)) ∗ (bigSep Finset.univ fun h : Fin 4 => cr c (.r3b h)))
/-- What the kernel's cells start from. -/
def Ghost (c : Dev nD) : sProp (MM F) := iprop(∃ K, Records m K ∗ PayToks c ∗ Poss c)

abbrev argPts (c : Dev nD) : sProp (MM F) := (((c : Thread nD τ).loc main_arg0) ↦{fullShare} m ((c : Thread nD τ).loc main_arg0))
/-- The kernel's own buffers. -/
def Scr (c : Dev nD) : sProp (MM F) := iprop(Any xlM c ∗ Any owM c ∗ Any p1M c ∗ Any p2M c ∗ Any xoM c ∗ Any xpM c)

def start (c : Dev nD) : sProp (MM F) := iprop(Ghost m c ∗ Creds c ∗ levAts L lv ∗ argPts m c)
def Φ₀ (c : Dev nD) : sProp (MM F) := iprop(start m c ∗ Scr c)
def Φ₁ (c : Dev nD) : sProp (MM F) := iprop(argPts m c ∗ semVal (barCell c) 0 ∗ (bigSep Finset.univ fun j : J => done c j) ∗ Scr c)

def dats (_ : Fin 1) (c : Dev nD) : Dat τ (Elt F) Unit ℕ UU ℕ cfg0 c where
  A w := m ((cfg0.win w).arr.view.loc (c : Thread nD τ))
  after w _ := match w with
    | ⟨0, _⟩ => OUT m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

omit [FloatOps F] in
/-- A whole buffer owned at given contents is the buffer held at them. -/
theorem owns_whole (c : Dev nD) (b : Ref sig .tc) (X : b.ty.Contents (Elt F)) :
    (owns (Ix := Unit) (Name := ℕ) (U := UU) (Lvl := ℕ) (c : Thread nD τ) (Memref.whole b) fullShare X : sProp (MM F))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp (MM F) :=
  iprop(∃ f : Buf (Elt F) (((c : Dev nD) : Thread nD τ).loc b), ⌜f = X⌝ ∗ (((c : Thread nD τ).loc b) ↦{fullShare} f))

/-- The argument array is the device's stripe and the rest. -/
theorem arg_split (c : Dev nD) : (argPts m c : sProp (MM F)) ⊣⊢ iprop(At (stripeW c) c fullShare (XA m c)
    ∗ (((c : Thread nD τ).loc main_arg0) ↦[Finset.univ \ (stripeW c).view.set]{fullShare} m ((c : Thread nD τ).loc main_arg0))) := by
  unfold At; exact pointsTo_split_subset (Finset.subset_univ _)

def bodyPre (c : Dev nD) : sProp (MM F) :=
  iprop(Φ₀ m c ∗ (dats m 0 c).owesAt () t0_0.castSucc ∗ (∃ d, stg c cc0_stg0_0 ((dats m 0 c).before (0 : Fin 1) t0_0 d)))
def bodyPost (c : Dev nD) : sProp (MM F) :=
  iprop(Φ₁ m c ∗ (dats m 0 c).owesAt () t0_0.succ ∗ stg c cc0_stg0_0 (OUT m c))

/-- The kernel's body on device `c`, from what the pipeline hands it to what the pipeline takes back. -/
theorem sound_body (c : Dev nD) : bodyPre m c ⊢ wp frame (wpE (defs₀ (F := F)) 𝒱₀ c none) Set.univ (bodyAt0 t0_0) (fun _ => bodyPost m c) := by
  rw [body_eq]
  simp only [Prog.lift, Prog.bind_op, Prog.bind_ret, wp_deviceId]
  unfold bodyPre Φ₀ start Ghost PayToks Poss Creds Scr Dat.owesAt Pipeline.owesWithin
  iintro ⟨⟨⟨⟨%K, ⟨#HR, HT, HP⟩⟩, HCr, #HL, Harg⟩, Hxl, How, Hrecv⟩, ⟨%W, %hW, HO⟩, ⟨%d, %g, %hg, Ho⟩⟩
  rw [show (dats m 0 c).owed t0_0.castSucc = O₀ c from rfl]
  ihave Harg := (arg_split m c).1 $$ Harg
  icases Harg with ⟨Hst, Hrest⟩
  have h := ht_prog m K c
  unfold HT at h
  ihave H := h $$ [HT HP HCr Hxl How Hrecv HO Ho Hst]
  · isplitr
    · unfold Ctx; unfold Records
      icases HR with ⟨#H1, #H2⟩
      isplitr; · iexact H1
      isplitr; · iexact H2
      iexact HL
    isplitr [HO]
    · unfold Pre
      isplitl [Hst]; · iexact Hst
      isplitl [Hxl]; · iexact Hxl
      isplitl [How]; · iexact How
      isplitl [Hrecv]; · iexact Hrecv
      isplitl [Ho]
      · iapply (any_of oM c g); iapply (Entails.of_eq (at_whole c fullShare cc0_stg0_0 g).symm); iexact Ho
      isplitl [HT]; · iexact HT
      icases HP with ⟨HP1, HP2⟩
      isplitl [HP1]; · iexact HP1
      isplitl [HP2]; · iexact HP2
      iexact HCr
    unfold Ow; iexists W; iexact HO
  iapply (wp_wand _ _ _) $$ H
  iintro %_ ⟨HP, HO⟩
  unfold bodyPost Φ₁ Post Scr Dat.owesAt Pipeline.owesWithin Ow
  rw [show (dats m 0 c).owed t0_0.succ = 0 from rfl]
  icases HP with ⟨Hst, Hxl, How, Hrecv, Ho, Zb, Zj⟩
  icases HO with ⟨%W', HO⟩
  isplitr [HO Ho]
  · isplitl [Hst Hrest]
    · iapply (arg_split m c).2
      isplitl [Hst] <;> iassumption
    isplitl [Zb]; · iexact Zb
    isplitl [Zj]; · iexact Zj
    isplitl [Hxl]; · iexact Hxl
    isplitl [How]; · iexact How
    iexact Hrecv
  isplitl [HO]
  · iexists W'
    isplitr; · ipureintro; exact fun _ _ => Or.inl trivial
    iexact HO
  iexists (OUT m c)
  isplitr; · (ipureintro; rfl)
  iapply (Entails.of_eq (at_whole c fullShare cc0_stg0_0 (OUT m c))); iexact Ho

/-- The body meets what the pipeline asks of it. -/
theorem body_obligation (c : Dev nD) : BodyObligation (dats (F := F) m 0 c) (defs₀ (F := F)) 𝒱₀ () Set.univ := fun t => by
  rw [fin_N0 t]
  rw [bigSep_W0, bigSep_W0]
  simp only [owns_whole]
  exact sound_body m c

/-! ## The cells and their tokens -/

/-- The copies' semaphores are scoped to the call, differ, and are none of the pipeline's. -/
theorem ownSemFacts : Pipeline.OwnSemFacts cfg0.spec csem := by decide +kernel
/-- Every array is held whole. -/
theorem share_eq (c : Dev nD) (w : Fin cfg0.W) : (dats m 0 c).share w = fullShare := by unfold Dat.share; split <;> rfl

/-- The cells of all devices differ. -/
theorem kcell_inj : Function.Injective (kcell : Dev nD × Option J → GSem nD τ sig) := by
  rintro ⟨c, k⟩ ⟨c', k'⟩ h
  have h1 : c = c' := by
    have := congrArg (fun g : GSem nD τ sig => g.1.1) h
    cases k <;> cases k' <;> exact this
  subst h1
  have h2 := congrArg Prod.snd h
  cases k with
  | none => cases k' with
    | none => rfl
    | some j => exact absurd h2.symm (csem_ne_bar j)
  | some j => cases k' with
    | none => exact absurd h2 (csem_ne_bar j)
    | some j' => rw [csem_inj j j' h2]
def allCells : Finset (GSem nD τ sig) := Finset.univ.map ⟨kcell, kcell_inj⟩

/-- Every cell's duties of its one round: a barrier's seven, a copy's one. -/
def tokOf (x : Dev nD × (Fin 7 ⊕ J)) : GSem nD τ sig × ℕ × Fin 7 := match x.2 with
  | .inl i => (barCell x.1, 0, i)
  | .inr j => (cell x.1 j, 0, 0)
/-- So do the duties' tokens. -/
theorem tokOf_inj : Function.Injective tokOf := by
  rintro ⟨c, k⟩ ⟨c', k'⟩ h
  have h1 : c = c' := by
    have := congrArg (fun g : GSem nD τ sig × ℕ × Fin 7 => g.1.1.1) h
    cases k <;> cases k' <;> exact this
  subst h1
  have h2 := congrArg (fun g : GSem nD τ sig × ℕ × Fin 7 => g.1.2) h
  have h3 := congrArg (fun g : GSem nD τ sig × ℕ × Fin 7 => g.2.2) h
  cases k with
  | inl i => cases k' with
    | inl i' => rw [show i = i' from h3]
    | inr j => exact absurd h2.symm (csem_ne_bar j)
  | inr j => cases k' with
    | inl i' => exact absurd h2 (csem_ne_bar j)
    | inr j' => rw [csem_inj j j' h2]
def allToks : Finset (GSem nD τ sig × ℕ × Fin 7) := Finset.univ.map ⟨tokOf, tokOf_inj⟩

def u₀ : UU := (initOf (Pipeline.cells cfgs cellOf_inj) (Pipeline.launchToks cfgs cellOf_inj), initOf allCells allToks)

/-- The tokens of the duties of device `c`'s own cells. -/
def OwnToks (c : Dev nD) : sProp (MM F) :=
  iprop((bigSep Finset.univ fun i : Fin 7 => dutyTok ER (barCell c) 0 i) ∗ (bigSep Finset.univ fun j : J => dutyTok ER (cell c j) 0 0))

/-- What the launch's element deals device `c`. -/
def G (c : Dev nD) : sProp (MM F) :=
  iprop((bigSep Finset.univ fun k : Option J => roundState ER (sched m) (kcell (c, k)) 0)
    ∗ (bigSep Finset.univ fun k : Option J => iprop(atPos ER (kcell (c, k)) 0 ∅ 0 ∗ reached ER (kcell (c, k)) 0)) ∗ OwnToks c)

/-- The initial state gives every device its cells and their tokens. -/
theorem fund_all : BI.own (ER (initOf allCells allToks)) ⊢ (|==> bigSep Finset.univ (G m) : sProp (MM F)) := by
  have hX (Φ : GSem nD τ sig → sProp (MM F)) : bigSep allCells Φ = bigSep Finset.univ fun c : Dev nD => bigSep Finset.univ fun k : Option J => Φ (kcell (c, k)) := by
    unfold allCells; rw [bigSep_map, bigSep_univ_prod]; rfl
  have hT : bigSep allToks (fun x => (dutyTok ER x.1 x.2.1 x.2.2 : sProp (MM F))) = bigSep Finset.univ fun c : Dev nD => OwnToks c := by
    unfold allToks; rw [bigSep_map, bigSep_univ_prod]
    exact bigSep_congr fun c _ => by unfold OwnToks; rw [bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- A family over a device's cells: the barrier's and the copies'. -/
theorem over_cells (Φ : Option J → sProp (MM F)) : bigSep Finset.univ Φ = iprop((bigSep Finset.univ fun j : J => Φ (some j)) ∗ Φ none) := by
  rw [bigSep_univ_equiv (Equiv.optionEquivSumPUnit.{0} J).symm, bigSep_univ_sum, bigSep_univ_of_subsingleton PUnit.unit]; rfl

omit [FloatOps F] in
/-- The semaphore that outlives the call is the barrier's. -/
theorem unscoped_eq (c : Dev nD) : (unscopedSems0 c : sProp (MM F)) = semVal (barCell c) 0 := by
  unfold unscopedSems0; rw [bigSep_eq_bigSepL_of_eq [SemLoc.reg barS] (by decide) (by decide)]; rfl
omit [FloatOps F] in
/-- The call's own semaphores are the copies' cells. -/
theorem own_sems_eq (c : Dev nD) : (Pipeline.ownSems0 (Ix := Unit) (Name := ℕ) (U := UU) (Lvl := ℕ) (Val := Elt F) (τ := τ) csem c : sProp (MM F))
    = bigSep Finset.univ fun j : J => done c j := rfl
omit [FloatOps F] in
/-- All of a device's semaphores are its cells, at zero. -/
theorem sems0_eq (c : Dev nD) :
    iprop(Pipeline.ownSems0 (Ix := Unit) (Name := ℕ) (U := UU) (Lvl := ℕ) (Val := Elt F) (τ := τ) csem c ∗ unscopedSems0 c)
      ⊢ (bigSep Finset.univ fun k : Option J => semVal (kcell (c, k)) 0 : sProp (MM F)) := by
  rw [own_sems_eq, unscoped_eq, over_cells]; exact BI.Entails.refl _

/-- A device's cells are put under their invariants. -/
theorem core_alloc (c : Dev nD) :
    iprop(Pipeline.ownSems0 (Ix := Unit) (Name := ℕ) (U := UU) (Lvl := ℕ) (Val := Elt F) (τ := τ) csem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ OwnToks c) := by
  unfold G
  iintro ⟨Hos, Hus, Hst, Hat, Htok⟩
  ihave Hv := (sems0_eq (F := F) c) $$ [Hos Hus]
  · isplitl [Hos] <;> iassumption
  imod (show iprop((bigSep Finset.univ fun k : Option J => semVal (kcell (c, k)) 0) ∗ bigSep Finset.univ fun k : Option J => roundState ER (sched m) (kcell (c, k)) 0)
      ⊢ (|={Set.univ}=> bigSep Finset.univ fun k => iprop(∃ κ : ℕ, cellInv ER (sched m) κ (kcell (c, k))) : sProp (MM F)) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the devices that pay -/

def zE (k : Fin 3) : Dev nD ≃ Dev nD := ⟨fun c => zdev c k, fun c => zdev c k.rev, fun c => zdev_zdev c k, fun c => by simpa [Fin.rev_rev] using zdev_zdev c k.rev⟩
def yE (k : Fin 3) : Dev nD ≃ Dev nD := ⟨fun c => ydev c k, fun c => ydev c k.rev, fun c => ydev_ydev c k, fun c => by simpa [Fin.rev_rev] using ydev_ydev c k.rev⟩
def xE : Dev nD ≃ Dev nD := ⟨xdev, xdev, xdev_xdev, xdev_xdev⟩
def pE (i : Fin 7) : Dev nD ≃ Dev nD := ⟨fun c => peer c i, fun c => back c i, fun c => back_peer c i, fun c => peer_back c i⟩
def revE : Fin 4 × Fin 3 ≃ Fin 4 × Fin 3 := ⟨fun i => (i.1, i.2.rev), fun i => (i.1, i.2.rev), fun i => by simp, fun i => by simp⟩

omit [FloatOps F] in
/-- A family over devices and indices, each index's devices permuted and the indices too. -/
theorem around {I : Type} [Fintype I] [DecidableEq I] (σ : I ≃ I) (e : I → Dev nD ≃ Dev nD) (Φ : Dev nD → I → sProp (MM F)) :
    (bigSep Finset.univ fun c => bigSep Finset.univ fun i => Φ c i) = bigSep Finset.univ fun c => bigSep Finset.univ fun i => Φ (e i c) (σ i) := by
  rw [bigSep_univ_comm (fun c i => Φ c i), bigSep_univ_equiv σ, bigSep_univ_comm (fun c i => Φ (e i c) (σ i))]
  exact bigSep_congr fun i _ => bigSep_univ_equiv (e i) fun c => Φ c (σ i)

omit [FloatOps F] in
/-- Tokens go from the devices that own the cells to those that pay. -/
theorem toks_around : (bigSep Finset.univ fun c : Dev nD => (OwnToks c : sProp (MM F))) ⊢ bigSep Finset.univ fun c : Dev nD => PayToks c := by
  have hb := around (F := F) (Equiv.refl (Fin 7)) pE (fun c i => dutyTok ER (barCell c) 0 i)
  have h1 := around (F := F) revE (fun i => zE i.2) (fun c i => dutyTok ER (cell c (.r1 i.1 i.2)) 0 0)
  have h2 := around (F := F) revE (fun i => yE i.2) (fun c i => dutyTok ER (cell c (.r2 i.1 i.2)) 0 0)
  have h3 := around (F := F) (Equiv.refl (Fin 4)) (fun _ => xE) (fun c h => dutyTok ER (cell c (.r3a h)) 0 0)
  have h4 := around (F := F) (Equiv.refl (Fin 4)) (fun _ => xE) (fun c h => dutyTok ER (cell c (.r3b h)) 0 0)
  have e1 (c : Dev nD) := bigSep_univ_prod (fun i : Fin 4 × Fin 3 => (dutyTok ER (cell c (.r1 i.1 i.2)) 0 0 : sProp (MM F)))
  have e2 (c : Dev nD) := bigSep_univ_prod (fun i : Fin 4 × Fin 3 => (dutyTok ER (cell c (.r2 i.1 i.2)) 0 0 : sProp (MM F)))
  have e3 (c : Dev nD) := bigSep_univ_prod (fun i : Fin 4 × Fin 3 => (dutyTok ER (cell (ydev c i.2) (.r2 i.1 i.2.rev)) 0 0 : sProp (MM F)))
  unfold OwnToks PayToks tk1 tk2 tk3a tk3b
  simp only [over_J, bigSep_sep']
  rw [bigSep_congr (s := Finset.univ) (fun c _ => (e1 c).symm), bigSep_congr (s := Finset.univ) (fun c _ => (e2 c).symm), h1, h2, h3, h4, hb]
  rw [bigSep_congr (s := Finset.univ) (fun c _ => (e3 c).symm)]
  iintro ⟨Hb, Hl, Hs1, Hr1, Hs2, Hr2, Hs3, Hr3, Hs4, Hr4⟩
  isplitl [Hl]; · iexact Hl
  isplitl [Hb]; · iexact Hb
  isplitl [Hs1 Hr1]
  · isplitl [Hs1]; · iexact Hs1
    iexact Hr1
  isplitl [Hs2 Hr2]
  · isplitl [Hs2]; · iexact Hs2
    iexact Hr2
  isplitl [Hs3 Hr3]
  · isplitl [Hs3]; · iexact Hs3
    iexact Hr3
  isplitl [Hs4]; · iexact Hs4
  iexact Hr4

/-- The same with the invariants, which every device gets. -/
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ OwnToks c) : sProp (MM F))
      ⊢ bigSep Finset.univ (Ghost m) := by
  rw [bigSep_sep', bigSep_sep', ← bigSep_univ_prod (fun ck : Dev nD × Option J => iprop(∃ κ : ℕ, cellInv ER (sched m) κ (kcell ck))),
    bigSep_congr (s := Finset.univ) (fun (c : Dev nD) _ => bigSep_sep' Finset.univ (fun k : Option J => (atPos ER (kcell (c, k)) 0 ∅ 0 : sProp (MM F))) (fun k => reached ER (kcell (c, k)) 0)),
    bigSep_sep', ← bigSep_univ_prod (fun ck : Dev nD × Option J => (reached ER (kcell ck) 0 : sProp (MM F)))]
  iintro ⟨HI, ⟨Hat, #HR⟩, Htok⟩
  ihave HK := (BI.bigSep_exists_pi Finset.univ (fun (ck : Dev nD × Option J) (κ : ℕ) => (cellInv ER (sched m) κ (kcell ck) : sProp (MM F)))) $$ HI
  icases HK with ⟨%K, #HI⟩
  ihave Htk := (toks_around (F := F)) $$ Htok
  have hg (c : Dev nD) : iprop(Records m K ∗ (PayToks c ∗ Poss c)) ⊢ Ghost m c := by
    unfold Ghost; iintro H; iexists K; iexact H
  have hat : (bigSep Finset.univ fun c : Dev nD => bigSep Finset.univ fun k : Option J => (atPos ER (kcell (c, k)) 0 ∅ 0 : sProp (MM F))) ⊢ bigSep Finset.univ fun c => Poss c :=
    bigSep_mono fun c _ => by
      rw [over_cells]
      show iprop((bigSep Finset.univ fun j : J => ps c j) ∗ atPos ER (barCell c) 0 ∅ 0) ⊢ (Poss c : sProp (MM F))
      unfold Poss
      iintro ⟨H1, H2⟩
      isplitl [H2]; · iexact H2
      iexact H1
  have hall : iprop(Records m K ∗ bigSep Finset.univ fun c : Dev nD => iprop(PayToks c ∗ Poss c)) ⊢ bigSep Finset.univ (Ghost m) :=
    (sep_mono_left (BI.bigSep_of_persistent Finset.univ (Records m K))).trans (by rw [← bigSep_sep']; exact bigSep_mono fun c _ => hg c)
  iapply hall
  isplitr
  · unfold Records; isplitl; · iexact HI
    iexact HR
  · rw [bigSep_sep']
    isplitl [Htk]; · iexact Htk
    iapply hat; iexact Hat

/-- From all devices' semaphores to what every device starts with. -/
theorem glob : (bigSep Finset.univ fun c => iprop(Pipeline.ownSems0 (Ix := Unit) (Name := ℕ) (U := UU) (Lvl := ℕ) (Val := Elt F) (τ := τ) csem c ∗ unscopedSems0 c ∗ G m c) : sProp (MM F))
    ⊢ |={Set.univ}=> bigSep Finset.univ (Ghost m) :=
  ((bigSep_mono fun c _ => core_alloc m c).trans (bigSep_fupd _ _)).trans (BI.fupd_mono (regroup m))

/-! ## The launch credit -/

omit [FloatOps F] in
/-- The launch credit of a list of debts is the list of their credits. -/
theorem credL {I : Type} (l : List I) (D : Dev nD → I → CellTallies nD τ sig Unit) (c : Dev nD) :
    (Pipeline.launchCred (fun d => (l.map (D d)).sum) c : sProp (MM F)) = bigSepL l fun i => Pipeline.launchCred (fun d => D d i) c := by
  induction l with
  | nil => rw [bigSepL_nil]; exact Pipeline.launchCred_zero c
  | cons i l ih =>
    rw [bigSepL_cons', ← ih, ← Pipeline.launchCred_add]; rfl
omit [FloatOps F] in
/-- A debt that every device owes to one peer is one credit at every device. -/
theorem cred_at {f : Dev nD → Dev nD} {finv : Dev nD → Dev nD} (h1 : ∀ c, f (finv c) = c) (h2 : ∀ d, finv (f d) = d) (j : J) (c : Dev nD) :
    (Pipeline.launchCred (fun d => tallyAt (cell (f d) j) () (amt j)) c : sProp (MM F)) ⊢ cr c j :=
  Pipeline.launchCred_tallyAt (csem j) f finv h1 h2 () (amt j) c

omit [FloatOps F] in
/-- The seven signals owed are a credit of seven at the barrier. -/
theorem cred_bar (c : Dev nD) : (Pipeline.launchCred (fun d => ((List.finRange 7).map (dBar d)).sum) c : sProp (MM F)) ⊢ cred (tallyAt (barCell c) () 7) := by
  rw [credL]
  refine (bigSepL_mono (Ψ := fun _ => (cred (tallyAt (barCell c) () 1) : sProp (MM F))) fun i _ => Pipeline.launchCred_tallyAt (.reg barS) (fun d => peer d i) (fun d => back d i) (fun d => peer_back d i) (fun d => back_peer d i) () 1 c).trans ?_
  have hk (n : ℕ) (l : List (Fin 7)) (hl : l.length = n) : (bigSepL l fun _ => (cred (tallyAt (barCell c) () 1) : sProp (MM F))) ⊢ cred (tallyAt (barCell c) () n) := by
    induction l generalizing n with
    | nil => subst hl; rw [bigSepL_nil, List.length_nil, tallyAt_zero, cred_zero]; exact BI.Entails.refl _
    | cons i l ih =>
      subst hl
      rw [bigSepL_cons', List.length_cons, ← tallyAt_add]
      refine BI.Entails.trans (?_ : _ ⊢ iprop(cred (tallyAt (barCell c) () l.length) ∗ cred (tallyAt (barCell c) () 1))) (cred_add _ _).2
      iintro ⟨H1, H2⟩
      ihave H2 := (ih _ rfl) $$ H2
      isplitl [H2] <;> iassumption
  exact hk 7 _ rfl

omit [FloatOps F] in
/-- The launch credit, by the cells that it is for. -/
theorem creds (c : Dev nD) : (Pipeline.launchCred O₀ c : sProp (MM F)) ⊢ Creds c := by
  have e : (Pipeline.launchCred O₀ c : sProp (MM F)) = iprop(Pipeline.launchCred (fun d => ((List.finRange 7).map (dBar d)).sum) c
      ∗ Pipeline.launchCred (fun d => (hks.map (dR1 d)).sum) c ∗ Pipeline.launchCred (fun d => (hs.map (dB d)).sum) c
      ∗ Pipeline.launchCred (fun d => (hs.map (dR3b d)).sum) c ∗ Pipeline.launchCred (fun _ => 0) c) := by
    rw [← Pipeline.launchCred_add, ← Pipeline.launchCred_add, ← Pipeline.launchCred_add, ← Pipeline.launchCred_add]; rfl
  rw [e]
  unfold Creds
  iintro ⟨Hb, H1, H2, H3, -⟩
  isplitl [Hb]; · iapply (cred_bar c); iexact Hb
  isplitl [H1]
  · iapply (show (Pipeline.launchCred (fun d => (hks.map (dR1 d)).sum) c : sProp (MM F)) ⊢ bigSep Finset.univ fun h : Fin 4 => bigSep Finset.univ fun r : Fin 3 => cr c (.r1 h r) from by
      rw [credL, ← bigSep_univ_prod (fun i : Fin 4 × Fin 3 => (cr c (.r1 i.1 i.2) : sProp (MM F))), bigSep_univ_equiv revE, bigSep_univ_eq_bigSepL hks hks_univ hks_nodup]
      exact bigSepL_mono fun i _ => cred_at (fun d => (zE i.2).right_inv d) (fun d => (zE i.2).left_inv d) (.r1 i.1 i.2.rev) c)
    iexact H1
  ihave H2 := (show (Pipeline.launchCred (fun d => (hs.map (dB d)).sum) c : sProp (MM F))
      ⊢ iprop((bigSep Finset.univ fun h : Fin 4 => bigSep Finset.univ fun r : Fin 3 => cr c (.r2 h r)) ∗ (bigSep Finset.univ fun h : Fin 4 => cr c (.r3a h))) from by
      rw [credL, ← bigSep_sep', bigSep_univ_eq_bigSepL hs hs_univ hs_nodup]
      refine bigSepL_mono fun h _ => ?_
      rw [show (fun d => dB d h) = fun d => (ks.map (dR2 d h)).sum + dR3a d h from rfl, Pipeline.launchCred_add, credL]
      refine BI.sep_mono ?_ (cred_at xdev_xdev xdev_xdev (.r3a h) c)
      rw [bigSep_univ_equiv Fin.revPerm, bigSep_univ_eq_bigSepL ks ks_univ ks_nodup]
      exact bigSepL_mono fun k _ => cred_at (fun d => (yE k).right_inv d) (fun d => (yE k).left_inv d) (.r2 h k.rev) c) $$ H2
  icases H2 with ⟨H2, H3a⟩
  isplitl [H2]; · iexact H2
  isplitl [H3a]; · iexact H3a
  iapply (show (Pipeline.launchCred (fun d => (hs.map (dR3b d)).sum) c : sProp (MM F)) ⊢ bigSep Finset.univ fun h : Fin 4 => cr c (.r3b h) from by
    rw [credL, bigSep_univ_eq_bigSepL hs hs_univ hs_nodup]
    exact bigSepL_mono fun h _ => cred_at xdev_xdev xdev_xdev (.r3b h) c)
  iexact H3

/-! ## The run -/

/-- What a device starts the call with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Ghost m c)
      ⊢ |={Set.univ}=> iprop(start m c ∗ emp) := by
  rw [Pipeline.unscopedRestP_none, unscopedRest0_eq]
  iintro ⟨Harg, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact Harg
  · iempintro

omit [FloatOps F] in
/-- A buffer held at any contents, written out. -/
theorem any_whole (c : Dev nD) (b : Ref sig .tc) :
    (Any (F := F) (Memref.whole b) c : sProp (MM F)) = iprop(∃ f : Buf (Elt F) ((c : Thread nD τ).loc b), ((c : Thread nD τ).loc b) ↦{fullShare} f) :=
  congrArg BIBase.exists (funext fun f => at_whole c fullShare b f)
omit [FloatOps F] in
/-- The call's scratch buffers, named. -/
theorem scr_eq (c : Dev nD) : (Pipeline.scopedRest cfg0.spec c : sProp (MM F)) = Scr c := by
  rw [show (Pipeline.scopedRest cfg0.spec c : sProp (MM F)) = _ from scopedRest0_eq c]
  unfold Scr; rw [any_whole, any_whole, any_whole, any_whole, any_whole, any_whole]

/-- The start and the scratch buffers make up what the body begins with. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs] <;> iassumption

/-- What the body ends with gives the semaphores, the argument and the scratch back. -/
theorem phi1_exit (c : Dev nD) :
    (dats m 0 c).Φ (Fin.last cfg0.N) ⊢ iprop((unscopedSems0 c ∗ argPts m c) ∗ Pipeline.ownSems0 csem c ∗ Pipeline.scopedRest cfg0.spec c) := by
  rw [show (dats m 0 c).Φ (Fin.last cfg0.N) = Φ₁ m c from rfl, scr_eq, own_sems_eq, unscoped_eq]
  unfold Φ₁
  iintro ⟨Ha, Zb, Zj, Hr⟩
  isplitl [Zb Ha]
  · isplitl [Zb] <;> iassumption
  isplitl [Zj] <;> iassumption

/-- No copy's semaphore is the pipeline's. -/
theorem stage_ne : ∀ (w : Fin cfg0.W) (s : Fin (cfg0.spec w).nbuf) (j : J), csem j ≠ .dma ((cfg0.spec w).sem s) := by decide +kernel
/-- The pipeline's semaphores are at level 0. -/
theorem lv_stage (c : Dev nD) (w : Fin cfg0.W) (s : Fin (cfg0.spec w).nbuf) : lv ((c : Thread nD τ), .dma ((cfg0.spec w).sem s)) () = 0 := by
  unfold lv
  rw [if_neg (fun h => by cases h), dif_neg (fun h => by
    obtain ⟨j, hj⟩ := h
    exact stage_ne w s j hj)]

/-- A device may wait at the pipeline's semaphores whatever it owes. -/
theorem waits (c : Dev nD) : (levAts L lv : sProp (MM F)) ⊢ Pipeline.cellsWaits cfgs (dats m) () 0 c :=
  Pipeline.cellsWaits_intro cfgs (dats m) () 0 c fun w s t => mayWait c _ _ (by
    rw [lv_stage c w s]
    rcases t with ⟨_ | _, ht⟩
    · exact above_O₀ c
    · exact above_zero 0)

/-- Every device's result array ends at what the second phase's sums put there, its argument array as it was, and every
    semaphore's counter at zero, on every weakly fair execution. -/
theorem run_main : θ_run defs (onTc (τ := τ) (main (F := F))) ⟨m, fun _ => 0, ρ⟩ (fun r => (∀ c : Dev nD,
      r.2.mem ((c : Thread nD τ).loc main_v1) = (dats m 0 c).arrAt 0 cfg0.N
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := Ghost m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ argPts m c)) (Z := fun _ => iprop(emp))
    (hX := start_intro m ρ) (hin := phi0_intro m) (hout := phi1_exit m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      iintro ⟨⟨Hu, Ha⟩, -, HSI⟩
      icombine HSI Ha gives %hx
      imod (Pipeline.unscopedSems0_read (X := unscopedSems0 c) (c := c) fupd_intro s') $$ [Hu HSI] with ⟨%hz, HSI⟩
      · isplitl [Hu] <;> iassumption
      imodintro
      isplitr; · ipureintro; exact ⟨Buf.eq_of_forall_mem_univ hx, hz⟩
      iexact HSI)
    (hQ := fun _ h hs => ⟨fun c => ⟨(h c).1 0, (h c).2.2.1⟩, sem_eq_zero hs fun c => (h c).2.2.2⟩)

end Cert.KernelIdeal.RS

end
-- ==== Proof.Value.lean ====
/- The result of the run, read as a block of the sum over the first axis of the whole array. -/
module

public import proofs.«01_k».proof.Proof.Launch
public import Idealize.ShloMosaic.Lib.Layout
public import Idealize.ShloMosaic.PureOps.Ideal.Laws
public import Idealize.ShloMosaic.Lib.Pipeline.Value

@[expose] public section

noncomputable section

namespace Cert.KernelIdeal.RS

open Idealize.ShloMosaic Idealize.ShloMosaic.TcCoe Idealize.SL.Sem
open Cert.KernelIdeal Cert.KernelIdeal.Gen
open Idealize.ShloMosaic.ValueIdx Idealize.ShloMosaic.ValueKit

section
variable {F : FTy → Type} [FloatOps F]
variable (m : (ℓ : Loc nD τ sig) → Buf (Elt F) ℓ) (ρ : Dev nD → PrngReg)

/-! ## The result array at the end of the run -/

/-- The one block is the whole result. -/
theorem block_whole : ∀ a, win0_0.index t0_0 a * win0_0.size a = 0 ∧ win0_0.xsize (grid0.coords t0_0) a = 512 := by decide +kernel

/-- Every index of the result lies in the one block that is written back. -/
theorem result_cover (i : S512x512.Idx) : ∃ t : Fin cfg0.N, (cfg0.win 0).flush t = true ∧ i ∈ ((cfg0.win 0).blk t).view.set := by
  refine ⟨t0_0, flush0_0 _, ?_⟩
  show i ∈ ((View.whole main_v1).slice (win0_0.rect t0_0)).set
  rw [View.set_slice_whole, Rect.mem_set_unit]
  have h0 : (i 0 : Nat) < 512 := (i 0).isLt
  have h1 : (i 1 : Nat) < 512 := (i 1).isLt
  intro a
  show win0_0.index t0_0 a * win0_0.size a ≤ (i a : Nat) ∧ (i a : Nat) < win0_0.index t0_0 a * win0_0.size a + win0_0.xsize (grid0.coords t0_0) a
  rw [(block_whole a).1, (block_whole a).2]
  match a with
  | ⟨0, _⟩ => exact ⟨Nat.zero_le _, by show (i 0 : Nat) < 0 + 512; omega⟩
  | ⟨1, _⟩ => exact ⟨Nat.zero_le _, by show (i 1 : Nat) < 0 + 512; omega⟩

/-- What is written back is the output the body leaves. -/
theorem flushed_eq (c : Dev nD) (t : Fin cfg0.N) :
    (dats m 0 c).flushed 0 t = ((cfg0.win 0).blk t).view.read (Elt F) (OUT m c) := by
  obtain rfl := fin_N0 t
  have ha : (dats m 0 c).after 0 t0_0 = OUT m c := by dsimp only [dats]
  unfold Pipeline.Dat.flushed
  rw [ha]
  generalize OUT m c = G
  funext y
  refine congrArg G (funext fun a => Fin.ext ?_)
  show (y a).val = win0_0.index t0_0 a * win0_0.size a + 1 * (y a).val
  rw [(block_whole a).1]
  omega

/-- The result array ends holding `OUT`. -/
theorem result_eq (c : Dev nD) : (dats m 0 c).arrAt 0 cfg0.N = OUT m c :=
  (dats m 0 c).arrAt_eq_of_cover 0 (OUT m c) (fun t _ => flushed_eq m c t) result_cover

/-! ## Each term of the sum, as an element of an argument -/

/-- The offset of the stripe in the argument, as computed. -/
theorem off1_eq (c : Dev nD) : k0_off1 c = ![0, 64 * (c.val / 4), 0] := by revert c; decide +kernel

/-- Row `i` of a device's stripe is a row of the argument. -/
theorem stripe_lt (c : Dev nD) (i : Fin 64) : 64 * (c.val / 4) + i.val < 512 := by
  have h : c.val < 32 := c.isLt
  omega

/-- The stripe of device `c` is the 64 rows from `64 (c / 4)` of its argument. -/
theorem XL_apply (c : Dev nD) (i : Fin 64) (j : Fin 2048) :
    XL m c (ix2 i j) = XA m c (ix3 (⟨0, Nat.one_pos⟩ : Fin 1) (⟨64 * (c.val / 4) + i.val, stripe_lt c i⟩ : Fin 512) j) := by
  show XA m c ((Rect.unit (s := S1x512x2048) (k0_off1 c) S1x64x2048.size (k0_off1_inb c)).emb
    (Shape.reshapeEquiv (Shape.Squeezes.numel_eq squeezes_S1x64x2048_S64x2048) (ix2 i j))) = _
  rw [show Shape.reshapeEquiv (Shape.Squeezes.numel_eq squeezes_S1x64x2048_S64x2048) (ix2 i j)
      = ix3 (⟨0, Nat.one_pos⟩ : Fin 1) i j from reshapeEquiv_ix2_1ab _ i j]
  congr 1
  funext a
  refine Fin.ext ((rect_emb_unit_val (s := S1x512x2048) _ S1x64x2048.size (k0_off1_inb c) _ a).trans ?_)
  match a with
  | ⟨0, _⟩ => exact congrArg (· + 0) (congrFun (off1_eq c) 0)
  | ⟨1, _⟩ => exact congrArg (· + i.val) (congrFun (off1_eq c) 1)
  | ⟨2, _⟩ => exact (congrArg (· + j.val) (congrFun (off1_eq c) 2)).trans (Nat.zero_add _)

end

/-! ## The sum -/

/-- The device at row block `b` has place `b` on x and y, -/
theorem blkDev_div (c : Dev nD) (b : Fin 8) : (blkDev c b).val / 4 = b.val := by revert c b; decide +kernel
/-- and the same z. -/
theorem blkDev_z (c : Dev nD) (b : Fin 8) : zOf (blkDev c b) = zOf c := by revert c b; decide +kernel
/-- A z-peer has the same place on x and y, -/
theorem zdev_div (c : Dev nD) (k : Fin 3) : (zdev c k).val / 4 = c.val / 4 := by revert c k; decide +kernel
/-- and its z is `k + 1` further, cyclically. -/
theorem zdev_z (c : Dev nD) (k : Fin 3) : zOf (zdev c k) = zOf c + k.succ := by revert c k; decide +kernel

/-- Four terms added from any of them on, cyclically, are their sum. -/
theorem sum_from (f : Fin 4 → EReal) (z : Fin 4) : f z + f (z + 1) + f (z + 2) + f (z + 3) = ∑ k, f k := by
  rw [Fin.sum_univ_four]
  fin_cases z
  · rfl
  · show f 1 + f 2 + f 3 + f 0 = _; ac_rfl
  · show f 2 + f 3 + f 0 + f 1 = _; ac_rfl
  · show f 3 + f 0 + f 1 + f 2 = _; ac_rfl

variable (m : (ℓ : Loc nD τ sig) → Buf (Elt Ideal) ℓ)
variable (X : (⟨3, ![4, 512, 2048]⟩ : Shape).Idx → EReal)

/-- The whole array has, at first coordinate `z`, the argument of every device with that z. -/
def Agree : Prop := ∀ c : Dev nD, m ((c : Thread nD τ).loc main_arg0)
  = Layout.blockN ⟨3, ![1, 512, 2048]⟩ ⟨3, ![4, 512, 2048]⟩ (Layout.meshBlock [2, 4, 4] ![[2], [], []] c) X

variable {m X}

/-- A device's argument, in the whole array. -/
theorem XA_apply (hX : Agree m X) (c : Dev nD) (i : Fin 512) (j : Fin 2048) :
    XA m c (ix3 (⟨0, Nat.one_pos⟩ : Fin 1) i j) = X (ix3 (zOf c) i j) := by
  refine (congrFun (hX c) _).trans ((Layout.blockN_apply _ _ _ _).trans (congrArg X ?_))
  funext a
  refine Fin.ext ((Layout.TilesN.idx_val _ _ _ a).trans ?_)
  match a with
  | ⟨0, _⟩ => show (c.val / 1 % 4 * 1 + 0) * 1 + 0 = c.val % 4; omega
  | ⟨1, _⟩ => show 0 * 512 + i.val = i.val; omega
  | ⟨2, _⟩ => show 0 * 2048 + j.val = j.val; omega

/-- A device's part, in the whole array. -/
theorem part_apply (hX : Agree m X) (c d : Dev nD) (i : Fin 64) (j : Fin 512) :
    part m c d (ix2 i j) = X (ix3 (zOf d) (⟨64 * (d.val / 4) + i.val, stripe_lt d i⟩ : Fin 512) (col c j)) :=
  (XL_apply m d i (col c j)).trans (XA_apply hX d _ _)

/-- A device's own sum is the sum over the whole array's first axis. -/
theorem OWN_apply (hX : Agree m X) (c : Dev nD) (i : Fin 64) (j : Fin 512) :
    (OWN m c (ix2 i j) : EReal) = ∑ k : Fin 4, X (ix3 k (⟨64 * (c.val / 4) + i.val, stripe_lt c i⟩ : Fin 512) (col c j)) := by
  have e : ∀ k : Fin 3, part m c (zdev c k) (ix2 i j)
      = X (ix3 (zOf c + k.succ) (⟨64 * (c.val / 4) + i.val, stripe_lt c i⟩ : Fin 512) (col c j)) := fun k => by
    rw [part_apply hX, zdev_z]
    congr 2
    exact Fin.ext (by show 64 * ((zdev c k).val / 4) + i.val = _; rw [zdev_div])
  show (part m c c (ix2 i j) + part m c (zdev c 0) (ix2 i j) + part m c (zdev c 1) (ix2 i j) + part m c (zdev c 2) (ix2 i j) : EReal) = _
  rw [e 0, e 1, e 2, part_apply hX]
  exact sum_from (fun k => X (ix3 k (⟨64 * (c.val / 4) + i.val, stripe_lt c i⟩ : Fin 512) (col c j))) (zOf c)

/-- The output of device `c` is its block of columns of any array that is the sum over the first axis. -/
theorem OUT_eq (hX : Agree m X) (c : Dev nD) (v : (⟨2, ![512, 2048]⟩ : Shape).Idx → EReal)
    (hv : ∀ (i : Fin 512) (j : Fin 2048), v (ix2 i j) = ∑ k : Fin 4, X (ix3 k i j)) :
    OUT m c = Layout.blockN ⟨2, ![512, 512]⟩ ⟨2, ![512, 2048]⟩ (Layout.meshBlock [2, 4, 4] ![[], [2]] c) v := by
  funext (x : S512x512.Idx)
  have h0 : (x 0).val < 512 := (x 0).isLt
  refine (OWN_apply hX _ _ _).trans (.trans ?_ (Layout.blockN_apply _ _ _ _).symm)
  refine (Eq.trans ?_ (hv (x 0) (col c (x 1))).symm).trans (congrArg v ?_)
  · refine Finset.sum_congr rfl fun k _ => congrArg X ?_
    congr 1
    · refine Fin.ext ?_
      show 64 * ((blkDev c _).val / 4) + (x 0).val % 64 = (x 0).val
      rw [blkDev_div]
      show 64 * ((x 0).val / 64) + (x 0).val % 64 = (x 0).val
      omega
    · unfold col; simp only [blkDev_z]
  · funext a
    refine Fin.ext (.trans ?_ (Layout.TilesN.idx_val _ _ _ a).symm)
    match a with
    | ⟨0, _⟩ => show (x 0).val = 0 * 512 + (x 0).val; omega
    | ⟨1, _⟩ => show 512 * (c.val % 4) + (x 1).val = (c.val / 1 % 4 * 1 + 0) * 512 + (x 1).val; omega

end Cert.KernelIdeal.RS

end
-- ==== Proof.lean ====
/- The five claims: the three frames, the sanctioned idealization, and the equality of the kernel with the sum over
   the whole array's first axis. The kernel's run is proved once, for any float values, in Proof/Launch.lean; what
   its result array holds is read in Proof/Value.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Lib.Pointwise.Reduce
public import Idealize.ShloMosaic.Adequacy
public import Idealize.ShloMosaic.Init

@[expose] public section

noncomputable section

namespace Cert.Proof

open Idealize.ShloMosaic Idealize.SL.Sem

/-- The two programs have one text, so one table of bodies, -/
theorem bodies_eq : Cert.Kernel.defs₀ (F := Bits) = Cert.KernelIdeal.defs₀ (F := Bits) := by
  funext p l a
  match p, l, a with
  | .tc, 0, (t, s) => rfl
  | .scScalar _, _, _ => rfl
  | .scVector _ _, _, _ => rfl
/-- and one table with the pipeline's. -/
theorem defs_eq : Cert.Kernel.defs (F := Bits) = Cert.KernelIdeal.defs (F := Bits) :=
  congrArg (Pipeline.defs (Cert.KernelIdeal.pcfgs (F := Bits))) bodies_eq

/-- The kernel at its bit patterns: the run at those values, of which the frame keeps the argument and the counters. -/
theorem frame_kernel : Cert.quiescent_Kernel := by
  intro m ρ _
  have h := (θ_run Cert.KernelIdeal.defs _ _).mono
    (Q' := fun r => (∀ c : Dev Cert.KernelIdeal.nD, r.2.mem ((c.tc : Thread Cert.KernelIdeal.nD Cert.KernelIdeal.τ).loc Cert.KernelIdeal.main_arg0)
      = m ((c.tc : Thread Cert.KernelIdeal.nD Cert.KernelIdeal.τ).loc Cert.KernelIdeal.main_arg0)) ∧ r.2.sem = fun _ => 0)
    (fun _ h => ⟨fun c => (h.1 c).2, h.2⟩) (Cert.KernelIdeal.RS.run_main (F := Bits) m ρ)
  rw [← defs_eq] at h
  exact h

/-- The same of the idealization. -/
theorem frame_kernelIdeal : Cert.quiescent_KernelIdeal := fun m ρ _ =>
  (θ_run Cert.KernelIdeal.defs _ _).mono (fun _ h => ⟨fun c => (h.1 c).2, h.2⟩) (Cert.KernelIdeal.RS.run_main (F := Ideal) m ρ)

/-- The reference is two host operations and has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What the reference computes, at an index: the sum over the first axis. -/
theorem reference_apply (X : Cert.ReferenceIdeal.S4x512x2048.Idx → EReal) (i : Fin 512) (j : Fin 2048) :
    (Host.reduceAdd (F := Ideal) (φ := .f32) X (constant Cert.ReferenceIdeal.S_ .f32 0x00000000#32)
      Cert.ReferenceIdeal.Gen.reducesTo_S4x512x2048_S512x2048_d0 Cert.ReferenceIdeal.Gen.h_S_ (ValueIdx.ix2 i j) : EReal)
      = ∑ k : Fin 4, X (ValueIdx.ix3 k i j) := by
  refine (Ideal.hostReduceAdd_r3_a0 _ X _ _).trans ?_
  show Ideal.ofBits .f32 0x00000000#32 + _ = _
  rw [Ideal.ofBits_zero_f32, zero_add]
  rfl

/-- Every device's result is its block of columns of the reference's. -/
theorem algebraic : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).1.trans ?_, (h.1 c).2⟩)
    (Cert.KernelIdeal.RS.run_main (F := Ideal) m ρ)
  rw [Cert.KernelIdeal.RS.result_eq]
  exact Cert.KernelIdeal.RS.OUT_eq hagree c _ fun i j => reference_apply _ i j

/-- The certificate. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
